-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keeps_Kernel [hPre_keeps_Kernel : Cert.Pre_keeps_Kernel.Facts] (m : (ℓ : Loc Cert.Kernel.nD Cert.Kernel.τ Cert.Kernel.sig) → Buf (Elt Bits) ℓ) : Prop :=
  ∀ c : Dev Cert.Kernel.nD,
    (Cert.Pre_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keeps_Kernel [hPre_keeps_Kernel : Cert.Pre_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keeps_ReferenceIdeal [hPre_keeps_ReferenceIdeal : Cert.Pre_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_swaps_ReferenceIdeal : Cert.Pre_swaps_ReferenceIdeal.Facts] (m : (ℓ : Loc Cert.Reference.nD Cert.Reference.τ Cert.Reference.sig) → Buf (Elt Bits) ℓ) : Prop :=
  ∀ c : Dev Cert.Reference.nD,
    (Cert.Pre_swaps_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_keeps_ReferenceIdeal [hPre_keeps_ReferenceIdeal : Cert.Pre_keeps_ReferenceIdeal.Facts] (m : (ℓ : Loc Cert.Reference.nD Cert.Reference.τ Cert.Reference.sig) → Buf (Elt Bits) ℓ) : Prop :=
  ∀ c : Dev Cert.Reference.nD,
    (Cert.Pre_keeps_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keeps_Kernel [hKernel : Cert.Kernel.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg), Pre_Kernel_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keeps_Kernel [hKernelIdeal : Cert.KernelIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keeps_ReferenceIdeal [hReferenceIdeal : Cert.ReferenceIdeal.Facts] [hPre_keeps_ReferenceIdeal : Cert.Pre_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_swaps_ReferenceIdeal : Cert.Pre_swaps_ReferenceIdeal.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_keeps_ReferenceIdeal [hReference : Cert.Reference.Facts] [hPre_keeps_ReferenceIdeal : Cert.Pre_keeps_ReferenceIdeal.Facts] : Prop :=
  ∀ (m : (ℓ : Loc Cert.Reference.nD Cert.Reference.τ Cert.Reference.sig) → Buf (Elt Bits) ℓ) (g : Dev Cert.Reference.nD → PrngReg), Pre_Reference_keeps_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keeps_Kernel [hKernelIdeal : Cert.KernelIdeal.Facts] [hReferenceIdeal : Cert.ReferenceIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keeps_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨3, ![1, 4096, 2048]⟩ ⟨3, ![2, 4096, 2048]⟩ (Layout.meshBlock [2, 2, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v8)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![2, 4096, 2048]⟩ (Layout.meshBlock [2, 2, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v8) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_keeps_Kernel [hKernel : Cert.Kernel.Facts] [hReference : Cert.Reference.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_keeps_Kernel m →
    (∀ c : Dev Cert.Kernel.nD,
      m ((c.tc : Thread Cert.Kernel.nD Cert.Kernel.τ).loc Cert.Kernel.main_arg0) = Layout.blockN ⟨3, ![1, 4096, 2048]⟩ ⟨3, ![2, 4096, 2048]⟩ (Layout.meshBlock [2, 2, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v8)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![2, 4096, 2048]⟩ (Layout.meshBlock [2, 2, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v8) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_swaps_Kernel : Cert.Pre_swaps_Kernel.Facts) (hPre_keeps_Kernel : Cert.Pre_keeps_Kernel.Facts) (hPre_swaps_ReferenceIdeal : Cert.Pre_swaps_ReferenceIdeal.Facts) (hPre_keeps_ReferenceIdeal : Cert.Pre_keeps_ReferenceIdeal.Facts),
    quiescent_Kernel (hKernel := hKernel) (hPre_swaps_Kernel := hPre_swaps_Kernel)
    ∧ quiescent_Kernel_pre_keeps_Kernel (hKernel := hKernel) (hPre_keeps_Kernel := hPre_keeps_Kernel)
    ∧ quiescent_KernelIdeal (hKernelIdeal := hKernelIdeal) (hPre_swaps_Kernel := hPre_swaps_Kernel)
    ∧ quiescent_KernelIdeal_pre_keeps_Kernel (hKernelIdeal := hKernelIdeal) (hPre_keeps_Kernel := hPre_keeps_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_keeps_ReferenceIdeal (hReferenceIdeal := hReferenceIdeal) (hPre_keeps_ReferenceIdeal := hPre_keeps_ReferenceIdeal)
    ∧ quiescent_Reference (hReference := hReference) (hPre_swaps_ReferenceIdeal := hPre_swaps_ReferenceIdeal)
    ∧ quiescent_Reference_pre_keeps_ReferenceIdeal (hReference := hReference) (hPre_keeps_ReferenceIdeal := hPre_keeps_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_keeps_Kernel (hKernelIdeal := hKernelIdeal) (hReferenceIdeal := hReferenceIdeal) (hPre_keeps_Kernel := hPre_keeps_Kernel)
    ∧ bitexact_Kernel_Reference (hKernel := hKernel) (hReference := hReference) (hPre_swaps_Kernel := hPre_swaps_Kernel)
    ∧ bitexact_Kernel_Reference_pre_keeps_Kernel (hKernel := hKernel) (hReference := hReference) (hPre_keeps_Kernel := hPre_keeps_Kernel)
-- ==== Pre_keeps_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_keeps_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swaps_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swaps_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x4096x2048 : Shape := ⟨3, ![1, 4096, 2048]⟩
abbrev S2 : Shape := ⟨1, ![2]⟩
abbrev S2x128x2048 : Shape := ⟨3, ![2, 128, 2048]⟩
abbrev S12 : Shape := ⟨1, ![12]⟩
abbrev S8 : Shape := ⟨1, ![8]⟩
abbrev S1 : Shape := ⟨1, ![1]⟩
abbrev S_ : Shape := ⟨0, ![]⟩
abbrev S1x128x2048 : Shape := ⟨3, ![1, 128, 2048]⟩
abbrev S128x2048 : Shape := ⟨2, ![128, 2048]⟩

abbrev nBuf : Space → Nat
  | .hbm => 3
  | .vmem => 2
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .bf16⟩
  | .local _ .vmem, ⟨0, _⟩ => ⟨S2x128x2048, .f32⟩
  | .local _ .vmem, ⟨1, _⟩ => ⟨S2x128x2048, .bf16⟩
  | .local _ .smem, ⟨0, _⟩ => ⟨S2, .i32⟩
  | _, _ => ⟨S1x4096x2048, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : Index := Scalar.indexCast v5
  ![v9.toNat]
def k0_dev1 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v43 : BitVec 32 := Scalar.muli v2 c8_i32_23
  let v44 : BitVec 32 := Scalar.addi c0_i32_24 v43
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_20 v5
  let c4_i32_25 : BitVec 32 := 4#32
  let v45 : BitVec 32 := Scalar.muli v41 c4_i32_25
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v47 : BitVec 32 := Scalar.muli v8 c1_i32_26
  let v48 : BitVec 32 := Scalar.addi v46 v47
  v48.toNat
def k0_dev2 (d0 : Dev nD) : Nat :=
  let c0_i32_29 : BitVec 32 := 0#32
  let c1_i32_21 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v42 : BitVec 32 := Scalar.subi c1_i32_21 v2
  let c8_i32_28 : BitVec 32 := 8#32
  let v49 : BitVec 32 := Scalar.muli v42 c8_i32_28
  let v50 : BitVec 32 := Scalar.addi c0_i32_29 v49
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v51 : BitVec 32 := Scalar.muli v5 c4_i32_30
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v53 : BitVec 32 := Scalar.muli v8 c1_i32_31
  let v54 : BitVec 32 := Scalar.addi v52 v53
  v54.toNat
def k0_dev3 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v55 : BitVec 32 := Scalar.muli v2 c8_i32_33
  let v56 : BitVec 32 := Scalar.addi c0_i32_34 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v57 : BitVec 32 := Scalar.muli v5 c4_i32_35
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c2_i32_8 : BitVec 32 := 2#32
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v22 : BitVec 32 := Scalar.muli c2_i32_8 v20
  let v23 : BitVec 32 := Scalar.subi v21 v22
  let c1_i32_36 : BitVec 32 := 1#32
  let v59 : BitVec 32 := Scalar.muli v23 c1_i32_36
  let v60 : BitVec 32 := Scalar.addi v58 v59
  v60.toNat
def k0_off2 (d0 : Dev nD) (c0_i32_40 : BitVec 32) : Fin 3 → Nat :=
  let c0_i32_41 : BitVec 32 := 0#32
  let c2_i32_9 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_9 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v25 : BitVec 32 := Scalar.addi v24 v20
  let c1024_i32 : BitVec 32 := 1024#32
  let v26 : BitVec 32 := Scalar.muli v25 c1024_i32
  let v68 : BitVec 32 := Scalar.addi v26 c0_i32_40
  let c0_i32_46 : BitVec 32 := 0#32
  ![0, v68.toNat, 0]
def k0_dev4 (d0 : Dev nD) (v10 : BitVec 32) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v96 : BitVec 32 := Scalar.muli v2 c8_i32_70
  let v97 : BitVec 32 := Scalar.addi c0_i32_71 v96
  let c4_i32_72 : BitVec 32 := 4#32
  let v98 : BitVec 32 := Scalar.muli v10 c4_i32_72
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v100 : BitVec 32 := Scalar.muli v8 c1_i32_73
  let v101 : BitVec 32 := Scalar.addi v99 v100
  v101.toNat
def k0_cond2 (d0 : Dev nD) (v10 : BitVec 32) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v64 : BitVec 1 := Scalar.cmpi .ne v10 v5
  let v65 : BitVec 32 := Scalar.extui v64
  let c0_i32_38 : BitVec 32 := 0#32
  let v66 : BitVec 1 := Scalar.cmpi .ne v65 c0_i32_38
  v66

def k0_dev5 (d0 : Dev nD) (v10 : BitVec 32) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v131 : BitVec 32 := Scalar.muli v2 c8_i32_100
  let v132 : BitVec 32 := Scalar.addi c0_i32_101 v131
  let c4_i32_102 : BitVec 32 := 4#32
  let v133 : BitVec 32 := Scalar.muli v10 c4_i32_102
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v135 : BitVec 32 := Scalar.muli v8 c1_i32_103
  let v136 : BitVec 32 := Scalar.addi v134 v135
  v136.toNat
def k0_dev6 (d0 : Dev nD) : Nat :=
  let c0_i32_132 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_131 : BitVec 32 := 8#32
  let v167 : BitVec 32 := Scalar.muli v67 c8_i32_131
  let v168 : BitVec 32 := Scalar.addi c0_i32_132 v167
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_133 : BitVec 32 := 4#32
  let v169 : BitVec 32 := Scalar.muli v5 c4_i32_133
  let v170 : BitVec 32 := Scalar.addi v168 v169
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v171 : BitVec 32 := Scalar.muli v8 c1_i32_134
  let v172 : BitVec 32 := Scalar.addi v170 v171
  v172.toNat
def k0_dev7 (d0 : Dev nD) : Nat :=
  let c0_i32_144 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_143 : BitVec 32 := 8#32
  let v183 : BitVec 32 := Scalar.muli v2 c8_i32_143
  let v184 : BitVec 32 := Scalar.addi c0_i32_144 v183
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_145 : BitVec 32 := 4#32
  let v185 : BitVec 32 := Scalar.muli v5 c4_i32_145
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c2_i32_8 : BitVec 32 := 2#32
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v22 : BitVec 32 := Scalar.muli c2_i32_8 v20
  let v23 : BitVec 32 := Scalar.subi v21 v22
  let c1_i32_146 : BitVec 32 := 1#32
  let v187 : BitVec 32 := Scalar.muli v23 c1_i32_146
  let v188 : BitVec 32 := Scalar.addi v186 v187
  v188.toNat
def k0_dev8 (d0 : Dev nD) (v10 : BitVec 32) : Nat :=
  let c0_i32_177 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_176 : BitVec 32 := 8#32
  let v218 : BitVec 32 := Scalar.muli v2 c8_i32_176
  let v219 : BitVec 32 := Scalar.addi c0_i32_177 v218
  let c4_i32_178 : BitVec 32 := 4#32
  let v220 : BitVec 32 := Scalar.muli v10 c4_i32_178
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v222 : BitVec 32 := Scalar.muli v8 c1_i32_179
  let v223 : BitVec 32 := Scalar.addi v221 v222
  v223.toNat
def k0_dev9 (d0 : Dev nD) : Nat :=
  let c0_i32_208 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_207 : BitVec 32 := 8#32
  let v254 : BitVec 32 := Scalar.muli v67 c8_i32_207
  let v255 : BitVec 32 := Scalar.addi c0_i32_208 v254
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_209 : BitVec 32 := 4#32
  let v256 : BitVec 32 := Scalar.muli v5 c4_i32_209
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v258 : BitVec 32 := Scalar.muli v8 c1_i32_210
  let v259 : BitVec 32 := Scalar.addi v257 v258
  v259.toNat
def k0_dev10 (d0 : Dev nD) : Nat :=
  let c0_i32_220 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_219 : BitVec 32 := 8#32
  let v270 : BitVec 32 := Scalar.muli v2 c8_i32_219
  let v271 : BitVec 32 := Scalar.addi c0_i32_220 v270
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_221 : BitVec 32 := 4#32
  let v272 : BitVec 32 := Scalar.muli v5 c4_i32_221
  let v273 : BitVec 32 := Scalar.addi v271 v272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c2_i32_8 : BitVec 32 := 2#32
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v22 : BitVec 32 := Scalar.muli c2_i32_8 v20
  let v23 : BitVec 32 := Scalar.subi v21 v22
  let c1_i32_222 : BitVec 32 := 1#32
  let v274 : BitVec 32 := Scalar.muli v23 c1_i32_222
  let v275 : BitVec 32 := Scalar.addi v273 v274
  v275.toNat
def k0_dev11 (d0 : Dev nD) (v10 : BitVec 32) : Nat :=
  let c0_i32_253 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_252 : BitVec 32 := 8#32
  let v305 : BitVec 32 := Scalar.muli v2 c8_i32_252
  let v306 : BitVec 32 := Scalar.addi c0_i32_253 v305
  let c4_i32_254 : BitVec 32 := 4#32
  let v307 : BitVec 32 := Scalar.muli v10 c4_i32_254
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v309 : BitVec 32 := Scalar.muli v8 c1_i32_255
  let v310 : BitVec 32 := Scalar.addi v308 v309
  v310.toNat
def k0_dev12 (d0 : Dev nD) : Nat :=
  let c0_i32_284 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_283 : BitVec 32 := 8#32
  let v341 : BitVec 32 := Scalar.muli v67 c8_i32_283
  let v342 : BitVec 32 := Scalar.addi c0_i32_284 v341
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v343 : BitVec 32 := Scalar.muli v5 c4_i32_285
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v345 : BitVec 32 := Scalar.muli v8 c1_i32_286
  let v346 : BitVec 32 := Scalar.addi v344 v345
  v346.toNat
def k0_dev13 (d0 : Dev nD) : Nat :=
  let c0_i32_296 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_295 : BitVec 32 := 8#32
  let v357 : BitVec 32 := Scalar.muli v2 c8_i32_295
  let v358 : BitVec 32 := Scalar.addi c0_i32_296 v357
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_297 : BitVec 32 := 4#32
  let v359 : BitVec 32 := Scalar.muli v5 c4_i32_297
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c2_i32_8 : BitVec 32 := 2#32
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v22 : BitVec 32 := Scalar.muli c2_i32_8 v20
  let v23 : BitVec 32 := Scalar.subi v21 v22
  let c1_i32_298 : BitVec 32 := 1#32
  let v361 : BitVec 32 := Scalar.muli v23 c1_i32_298
  let v362 : BitVec 32 := Scalar.addi v360 v361
  v362.toNat
def k0_dev14 (d0 : Dev nD) (v10 : BitVec 32) : Nat :=
  let c0_i32_329 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_328 : BitVec 32 := 8#32
  let v392 : BitVec 32 := Scalar.muli v2 c8_i32_328
  let v393 : BitVec 32 := Scalar.addi c0_i32_329 v392
  let c4_i32_330 : BitVec 32 := 4#32
  let v394 : BitVec 32 := Scalar.muli v10 c4_i32_330
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v396 : BitVec 32 := Scalar.muli v8 c1_i32_331
  let v397 : BitVec 32 := Scalar.addi v395 v396
  v397.toNat
def k0_dev15 (d0 : Dev nD) : Nat :=
  let c0_i32_360 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_359 : BitVec 32 := 8#32
  let v428 : BitVec 32 := Scalar.muli v67 c8_i32_359
  let v429 : BitVec 32 := Scalar.addi c0_i32_360 v428
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_361 : BitVec 32 := 4#32
  let v430 : BitVec 32 := Scalar.muli v5 c4_i32_361
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v432 : BitVec 32 := Scalar.muli v8 c1_i32_362
  let v433 : BitVec 32 := Scalar.addi v431 v432
  v433.toNat
def k0_dev16 (d0 : Dev nD) : Nat :=
  let c0_i32_372 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_371 : BitVec 32 := 8#32
  let v444 : BitVec 32 := Scalar.muli v2 c8_i32_371
  let v445 : BitVec 32 := Scalar.addi c0_i32_372 v444
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_373 : BitVec 32 := 4#32
  let v446 : BitVec 32 := Scalar.muli v5 c4_i32_373
  let v447 : BitVec 32 := Scalar.addi v445 v446
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c2_i32_8 : BitVec 32 := 2#32
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v22 : BitVec 32 := Scalar.muli c2_i32_8 v20
  let v23 : BitVec 32 := Scalar.subi v21 v22
  let c1_i32_374 : BitVec 32 := 1#32
  let v448 : BitVec 32 := Scalar.muli v23 c1_i32_374
  let v449 : BitVec 32 := Scalar.addi v447 v448
  v449.toNat
def k0_dev17 (d0 : Dev nD) (v10 : BitVec 32) : Nat :=
  let c0_i32_404 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_403 : BitVec 32 := 8#32
  let v479 : BitVec 32 := Scalar.muli v2 c8_i32_403
  let v480 : BitVec 32 := Scalar.addi c0_i32_404 v479
  let c4_i32_405 : BitVec 32 := 4#32
  let v481 : BitVec 32 := Scalar.muli v10 c4_i32_405
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_406 : BitVec 32 := 1#32
  let v483 : BitVec 32 := Scalar.muli v8 c1_i32_406
  let v484 : BitVec 32 := Scalar.addi v482 v483
  v484.toNat
def k0_dev18 (d0 : Dev nD) : Nat :=
  let c0_i32_435 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_434 : BitVec 32 := 8#32
  let v515 : BitVec 32 := Scalar.muli v67 c8_i32_434
  let v516 : BitVec 32 := Scalar.addi c0_i32_435 v515
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_436 : BitVec 32 := 4#32
  let v517 : BitVec 32 := Scalar.muli v5 c4_i32_436
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_437 : BitVec 32 := 1#32
  let v519 : BitVec 32 := Scalar.muli v8 c1_i32_437
  let v520 : BitVec 32 := Scalar.addi v518 v519
  v520.toNat
def k0_dev19 (d0 : Dev nD) : Nat :=
  let c0_i32_447 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_446 : BitVec 32 := 8#32
  let v531 : BitVec 32 := Scalar.muli v2 c8_i32_446
  let v532 : BitVec 32 := Scalar.addi c0_i32_447 v531
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_448 : BitVec 32 := 4#32
  let v533 : BitVec 32 := Scalar.muli v5 c4_i32_448
  let v534 : BitVec 32 := Scalar.addi v532 v533
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c2_i32_8 : BitVec 32 := 2#32
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v22 : BitVec 32 := Scalar.muli c2_i32_8 v20
  let v23 : BitVec 32 := Scalar.subi v21 v22
  let c1_i32_449 : BitVec 32 := 1#32
  let v535 : BitVec 32 := Scalar.muli v23 c1_i32_449
  let v536 : BitVec 32 := Scalar.addi v534 v535
  v536.toNat
def k0_dev20 (d0 : Dev nD) (v10 : BitVec 32) : Nat :=
  let c0_i32_479 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_478 : BitVec 32 := 8#32
  let v566 : BitVec 32 := Scalar.muli v2 c8_i32_478
  let v567 : BitVec 32 := Scalar.addi c0_i32_479 v566
  let c4_i32_480 : BitVec 32 := 4#32
  let v568 : BitVec 32 := Scalar.muli v10 c4_i32_480
  let v569 : BitVec 32 := Scalar.addi v567 v568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_481 : BitVec 32 := 1#32
  let v570 : BitVec 32 := Scalar.muli v8 c1_i32_481
  let v571 : BitVec 32 := Scalar.addi v569 v570
  v571.toNat
def k0_off3 (d0 : Dev nD) (c0_i32_485 : BitVec 32) : Fin 3 → Nat :=
  let c0_i32_486 : BitVec 32 := 0#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_16 v2
  let v36 : BitVec 32 := Scalar.muli c2_i32_17 v35
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v37 : BitVec 32 := Scalar.subi c1_i32_18 v20
  let v38 : BitVec 32 := Scalar.addi v36 v37
  let c1024_i32_19 : BitVec 32 := 1024#32
  let v39 : BitVec 32 := Scalar.muli v38 c1024_i32_19
  let v580 : BitVec 32 := Scalar.addi v39 c0_i32_485
  let c0_i32_491 : BitVec 32 := 0#32
  ![0, v580.toNat, 0]
def k0_dev21 (d0 : Dev nD) : Nat :=
  let c0_i32_511 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_510 : BitVec 32 := 8#32
  let v602 : BitVec 32 := Scalar.muli v67 c8_i32_510
  let v603 : BitVec 32 := Scalar.addi c0_i32_511 v602
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_512 : BitVec 32 := 4#32
  let v604 : BitVec 32 := Scalar.muli v5 c4_i32_512
  let v605 : BitVec 32 := Scalar.addi v603 v604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_513 : BitVec 32 := 1#32
  let v606 : BitVec 32 := Scalar.muli v8 c1_i32_513
  let v607 : BitVec 32 := Scalar.addi v605 v606
  v607.toNat
def k0_dev22 (d0 : Dev nD) : Nat :=
  let c0_i32_523 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_522 : BitVec 32 := 8#32
  let v618 : BitVec 32 := Scalar.muli v2 c8_i32_522
  let v619 : BitVec 32 := Scalar.addi c0_i32_523 v618
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_524 : BitVec 32 := 4#32
  let v620 : BitVec 32 := Scalar.muli v5 c4_i32_524
  let v621 : BitVec 32 := Scalar.addi v619 v620
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c2_i32_8 : BitVec 32 := 2#32
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v22 : BitVec 32 := Scalar.muli c2_i32_8 v20
  let v23 : BitVec 32 := Scalar.subi v21 v22
  let c1_i32_525 : BitVec 32 := 1#32
  let v622 : BitVec 32 := Scalar.muli v23 c1_i32_525
  let v623 : BitVec 32 := Scalar.addi v621 v622
  v623.toNat
def k0_dev23 (d0 : Dev nD) (v10 : BitVec 32) : Nat :=
  let c0_i32_555 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_554 : BitVec 32 := 8#32
  let v653 : BitVec 32 := Scalar.muli v2 c8_i32_554
  let v654 : BitVec 32 := Scalar.addi c0_i32_555 v653
  let c4_i32_556 : BitVec 32 := 4#32
  let v655 : BitVec 32 := Scalar.muli v10 c4_i32_556
  let v656 : BitVec 32 := Scalar.addi v654 v655
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_557 : BitVec 32 := 1#32
  let v657 : BitVec 32 := Scalar.muli v8 c1_i32_557
  let v658 : BitVec 32 := Scalar.addi v656 v657
  v658.toNat
def k0_dev24 (d0 : Dev nD) : Nat :=
  let c0_i32_587 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_586 : BitVec 32 := 8#32
  let v689 : BitVec 32 := Scalar.muli v67 c8_i32_586
  let v690 : BitVec 32 := Scalar.addi c0_i32_587 v689
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_588 : BitVec 32 := 4#32
  let v691 : BitVec 32 := Scalar.muli v5 c4_i32_588
  let v692 : BitVec 32 := Scalar.addi v690 v691
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_589 : BitVec 32 := 1#32
  let v693 : BitVec 32 := Scalar.muli v8 c1_i32_589
  let v694 : BitVec 32 := Scalar.addi v692 v693
  v694.toNat
def k0_dev25 (d0 : Dev nD) : Nat :=
  let c0_i32_599 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_598 : BitVec 32 := 8#32
  let v705 : BitVec 32 := Scalar.muli v2 c8_i32_598
  let v706 : BitVec 32 := Scalar.addi c0_i32_599 v705
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_600 : BitVec 32 := 4#32
  let v707 : BitVec 32 := Scalar.muli v5 c4_i32_600
  let v708 : BitVec 32 := Scalar.addi v706 v707
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c2_i32_8 : BitVec 32 := 2#32
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v22 : BitVec 32 := Scalar.muli c2_i32_8 v20
  let v23 : BitVec 32 := Scalar.subi v21 v22
  let c1_i32_601 : BitVec 32 := 1#32
  let v709 : BitVec 32 := Scalar.muli v23 c1_i32_601
  let v710 : BitVec 32 := Scalar.addi v708 v709
  v710.toNat
def k0_dev26 (d0 : Dev nD) (v10 : BitVec 32) : Nat :=
  let c0_i32_632 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_631 : BitVec 32 := 8#32
  let v740 : BitVec 32 := Scalar.muli v2 c8_i32_631
  let v741 : BitVec 32 := Scalar.addi c0_i32_632 v740
  let c4_i32_633 : BitVec 32 := 4#32
  let v742 : BitVec 32 := Scalar.muli v10 c4_i32_633
  let v743 : BitVec 32 := Scalar.addi v741 v742
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_634 : BitVec 32 := 1#32
  let v744 : BitVec 32 := Scalar.muli v8 c1_i32_634
  let v745 : BitVec 32 := Scalar.addi v743 v744
  v745.toNat
def k0_dev27 (d0 : Dev nD) : Nat :=
  let c0_i32_664 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_663 : BitVec 32 := 8#32
  let v776 : BitVec 32 := Scalar.muli v67 c8_i32_663
  let v777 : BitVec 32 := Scalar.addi c0_i32_664 v776
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_665 : BitVec 32 := 4#32
  let v778 : BitVec 32 := Scalar.muli v5 c4_i32_665
  let v779 : BitVec 32 := Scalar.addi v777 v778
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_666 : BitVec 32 := 1#32
  let v780 : BitVec 32 := Scalar.muli v8 c1_i32_666
  let v781 : BitVec 32 := Scalar.addi v779 v780
  v781.toNat
def k0_dev28 (d0 : Dev nD) : Nat :=
  let c0_i32_676 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_675 : BitVec 32 := 8#32
  let v792 : BitVec 32 := Scalar.muli v2 c8_i32_675
  let v793 : BitVec 32 := Scalar.addi c0_i32_676 v792
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_677 : BitVec 32 := 4#32
  let v794 : BitVec 32 := Scalar.muli v5 c4_i32_677
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c2_i32_8 : BitVec 32 := 2#32
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v22 : BitVec 32 := Scalar.muli c2_i32_8 v20
  let v23 : BitVec 32 := Scalar.subi v21 v22
  let c1_i32_678 : BitVec 32 := 1#32
  let v796 : BitVec 32 := Scalar.muli v23 c1_i32_678
  let v797 : BitVec 32 := Scalar.addi v795 v796
  v797.toNat
def k0_dev29 (d0 : Dev nD) (v10 : BitVec 32) : Nat :=
  let c0_i32_708 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_707 : BitVec 32 := 8#32
  let v827 : BitVec 32 := Scalar.muli v2 c8_i32_707
  let v828 : BitVec 32 := Scalar.addi c0_i32_708 v827
  let c4_i32_709 : BitVec 32 := 4#32
  let v829 : BitVec 32 := Scalar.muli v10 c4_i32_709
  let v830 : BitVec 32 := Scalar.addi v828 v829
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_710 : BitVec 32 := 1#32
  let v831 : BitVec 32 := Scalar.muli v8 c1_i32_710
  let v832 : BitVec 32 := Scalar.addi v830 v831
  v832.toNat
def k0_dev30 (d0 : Dev nD) (v10 : BitVec 32) : Nat :=
  let c0_i32_748 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_747 : BitVec 32 := 8#32
  let v869 : BitVec 32 := Scalar.muli v2 c8_i32_747
  let v870 : BitVec 32 := Scalar.addi c0_i32_748 v869
  let c4_i32_749 : BitVec 32 := 4#32
  let v871 : BitVec 32 := Scalar.muli v10 c4_i32_749
  let v872 : BitVec 32 := Scalar.addi v870 v871
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_750 : BitVec 32 := 1#32
  let v873 : BitVec 32 := Scalar.muli v8 c1_i32_750
  let v874 : BitVec 32 := Scalar.addi v872 v873
  v874.toNat
def k0_dev31 (d0 : Dev nD) (v10 : BitVec 32) : Nat :=
  let c0_i32_781 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_780 : BitVec 32 := 8#32
  let v904 : BitVec 32 := Scalar.muli v2 c8_i32_780
  let v905 : BitVec 32 := Scalar.addi c0_i32_781 v904
  let c4_i32_782 : BitVec 32 := 4#32
  let v906 : BitVec 32 := Scalar.muli v10 c4_i32_782
  let v907 : BitVec 32 := Scalar.addi v905 v906
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_783 : BitVec 32 := 1#32
  let v908 : BitVec 32 := Scalar.muli v8 c1_i32_783
  let v909 : BitVec 32 := Scalar.addi v907 v908
  v909.toNat

def k0_chk1 (d0 : Dev nD) (v10 : BitVec 32) : Prop :=
  (∀ (k0_h2 : k0_cond2 d0 v10 = 1#1), (k0_dev4 d0 v10) < nD) ∧
  (∀ (k0_h2 : k0_cond2 d0 v10 = 1#1), (k0_dev5 d0 v10) < nD) ∧
  (∀ (k0_h2 : k0_cond2 d0 v10 = 1#1), (k0_dev8 d0 v10) < nD) ∧
  (∀ (k0_h2 : k0_cond2 d0 v10 = 1#1), (k0_dev11 d0 v10) < nD) ∧
  (∀ (k0_h2 : k0_cond2 d0 v10 = 1#1), (k0_dev14 d0 v10) < nD) ∧
  (∀ (k0_h2 : k0_cond2 d0 v10 = 1#1), (k0_dev17 d0 v10) < nD) ∧
  (∀ (k0_h2 : k0_cond2 d0 v10 = 1#1), (k0_dev20 d0 v10) < nD) ∧
  (∀ (k0_h2 : k0_cond2 d0 v10 = 1#1), (k0_dev23 d0 v10) < nD) ∧
  (∀ (k0_h2 : k0_cond2 d0 v10 = 1#1), (k0_dev26 d0 v10) < nD) ∧
  (∀ (k0_h2 : k0_cond2 d0 v10 = 1#1), (k0_dev29 d0 v10) < nD) ∧
  (∀ (k0_h2 : k0_cond2 d0 v10 = 1#1), (k0_dev30 d0 v10) < nD) ∧
  (∀ (k0_h2 : k0_cond2 d0 v10 = 1#1), (k0_dev31 d0 v10) < nD)
theorem k0_dev4_lt : ∀ (d0 : Dev nD) (v10 : BitVec 32) (k0_hw1 : k0_chk1 d0 v10), ∀ (k0_h2 : k0_cond2 d0 v10 = 1#1), (k0_dev4 d0 v10) < nD := fun d0 v10 k0_hw1 k0_h2 => k0_hw1.1 k0_h2
theorem k0_dev5_lt : ∀ (d0 : Dev nD) (v10 : BitVec 32) (k0_hw1 : k0_chk1 d0 v10), ∀ (k0_h2 : k0_cond2 d0 v10 = 1#1), (k0_dev5 d0 v10) < nD := fun d0 v10 k0_hw1 k0_h2 => k0_hw1.2.1 k0_h2
theorem k0_dev8_lt : ∀ (d0 : Dev nD) (v10 : BitVec 32) (k0_hw1 : k0_chk1 d0 v10), ∀ (k0_h2 : k0_cond2 d0 v10 = 1#1), (k0_dev8 d0 v10) < nD := fun d0 v10 k0_hw1 k0_h2 => k0_hw1.2.2.1 k0_h2
theorem k0_dev11_lt : ∀ (d0 : Dev nD) (v10 : BitVec 32) (k0_hw1 : k0_chk1 d0 v10), ∀ (k0_h2 : k0_cond2 d0 v10 = 1#1), (k0_dev11 d0 v10) < nD := fun d0 v10 k0_hw1 k0_h2 => k0_hw1.2.2.2.1 k0_h2
theorem k0_dev14_lt : ∀ (d0 : Dev nD) (v10 : BitVec 32) (k0_hw1 : k0_chk1 d0 v10), ∀ (k0_h2 : k0_cond2 d0 v10 = 1#1), (k0_dev14 d0 v10) < nD := fun d0 v10 k0_hw1 k0_h2 => k0_hw1.2.2.2.2.1 k0_h2
theorem k0_dev17_lt : ∀ (d0 : Dev nD) (v10 : BitVec 32) (k0_hw1 : k0_chk1 d0 v10), ∀ (k0_h2 : k0_cond2 d0 v10 = 1#1), (k0_dev17 d0 v10) < nD := fun d0 v10 k0_hw1 k0_h2 => k0_hw1.2.2.2.2.2.1 k0_h2
theorem k0_dev20_lt : ∀ (d0 : Dev nD) (v10 : BitVec 32) (k0_hw1 : k0_chk1 d0 v10), ∀ (k0_h2 : k0_cond2 d0 v10 = 1#1), (k0_dev20 d0 v10) < nD := fun d0 v10 k0_hw1 k0_h2 => k0_hw1.2.2.2.2.2.2.1 k0_h2
theorem k0_dev23_lt : ∀ (d0 : Dev nD) (v10 : BitVec 32) (k0_hw1 : k0_chk1 d0 v10), ∀ (k0_h2 : k0_cond2 d0 v10 = 1#1), (k0_dev23 d0 v10) < nD := fun d0 v10 k0_hw1 k0_h2 => k0_hw1.2.2.2.2.2.2.2.1 k0_h2
theorem k0_dev26_lt : ∀ (d0 : Dev nD) (v10 : BitVec 32) (k0_hw1 : k0_chk1 d0 v10), ∀ (k0_h2 : k0_cond2 d0 v10 = 1#1), (k0_dev26 d0 v10) < nD := fun d0 v10 k0_hw1 k0_h2 => k0_hw1.2.2.2.2.2.2.2.2.1 k0_h2
theorem k0_dev29_lt : ∀ (d0 : Dev nD) (v10 : BitVec 32) (k0_hw1 : k0_chk1 d0 v10), ∀ (k0_h2 : k0_cond2 d0 v10 = 1#1), (k0_dev29 d0 v10) < nD := fun d0 v10 k0_hw1 k0_h2 => k0_hw1.2.2.2.2.2.2.2.2.2.1 k0_h2
theorem k0_dev30_lt : ∀ (d0 : Dev nD) (v10 : BitVec 32) (k0_hw1 : k0_chk1 d0 v10), ∀ (k0_h2 : k0_cond2 d0 v10 = 1#1), (k0_dev30 d0 v10) < nD := fun d0 v10 k0_hw1 k0_h2 => k0_hw1.2.2.2.2.2.2.2.2.2.2.1 k0_h2
theorem k0_dev31_lt : ∀ (d0 : Dev nD) (v10 : BitVec 32) (k0_hw1 : k0_chk1 d0 v10), ∀ (k0_h2 : k0_cond2 d0 v10 = 1#1), (k0_dev31 d0 v10) < nD := fun d0 v10 k0_hw1 k0_h2 => k0_hw1.2.2.2.2.2.2.2.2.2.2.2 k0_h2

def k0_off4 (d0 : Dev nD) (c512_i32_788 : BitVec 32) : Fin 3 → Nat :=
  let c0_i32_790 : BitVec 32 := 0#32
  let c2_i32_13 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_13 v2
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v32 : BitVec 32 := Scalar.subi c1_i32_14 v20
  let v33 : BitVec 32 := Scalar.addi v31 v32
  let c1024_i32_15 : BitVec 32 := 1024#32
  let v34 : BitVec 32 := Scalar.muli v33 c1024_i32_15
  let v919 : BitVec 32 := Scalar.addi v34 c512_i32_788
  let c0_i32_797 : BitVec 32 := 0#32
  ![0, v919.toNat, 0]
def k0_dev32 (d0 : Dev nD) : Nat :=
  let c0_i32_806 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_805 : BitVec 32 := 8#32
  let v934 : BitVec 32 := Scalar.muli v67 c8_i32_805
  let v935 : BitVec 32 := Scalar.addi c0_i32_806 v934
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_807 : BitVec 32 := 4#32
  let v936 : BitVec 32 := Scalar.muli v5 c4_i32_807
  let v937 : BitVec 32 := Scalar.addi v935 v936
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_808 : BitVec 32 := 1#32
  let v938 : BitVec 32 := Scalar.muli v8 c1_i32_808
  let v939 : BitVec 32 := Scalar.addi v937 v938
  v939.toNat
def k0_dev33 (d0 : Dev nD) : Nat :=
  let c0_i32_830 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_829 : BitVec 32 := 8#32
  let v964 : BitVec 32 := Scalar.muli v67 c8_i32_829
  let v965 : BitVec 32 := Scalar.addi c0_i32_830 v964
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_831 : BitVec 32 := 4#32
  let v966 : BitVec 32 := Scalar.muli v5 c4_i32_831
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_832 : BitVec 32 := 1#32
  let v968 : BitVec 32 := Scalar.muli v8 c1_i32_832
  let v969 : BitVec 32 := Scalar.addi v967 v968
  v969.toNat
def k0_off5 (d0 : Dev nD) (c768_i32_836 : BitVec 32) : Fin 3 → Nat :=
  let c0_i32_838 : BitVec 32 := 0#32
  let c2_i32_11 : BitVec 32 := 2#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_10 v2
  let v28 : BitVec 32 := Scalar.muli c2_i32_11 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v29 : BitVec 32 := Scalar.addi v28 v20
  let c1024_i32_12 : BitVec 32 := 1024#32
  let v30 : BitVec 32 := Scalar.muli v29 c1024_i32_12
  let v979 : BitVec 32 := Scalar.addi v30 c768_i32_836
  let c0_i32_845 : BitVec 32 := 0#32
  ![0, v979.toNat, 0]
def k0_dev34 (d0 : Dev nD) : Nat :=
  let c0_i32_854 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_853 : BitVec 32 := 8#32
  let v994 : BitVec 32 := Scalar.muli v2 c8_i32_853
  let v995 : BitVec 32 := Scalar.addi c0_i32_854 v994
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_855 : BitVec 32 := 4#32
  let v996 : BitVec 32 := Scalar.muli v5 c4_i32_855
  let v997 : BitVec 32 := Scalar.addi v995 v996
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c2_i32_8 : BitVec 32 := 2#32
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v22 : BitVec 32 := Scalar.muli c2_i32_8 v20
  let v23 : BitVec 32 := Scalar.subi v21 v22
  let c1_i32_856 : BitVec 32 := 1#32
  let v998 : BitVec 32 := Scalar.muli v23 c1_i32_856
  let v999 : BitVec 32 := Scalar.addi v997 v998
  v999.toNat
def k0_dev35 (d0 : Dev nD) : Nat :=
  let c0_i32_878 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_877 : BitVec 32 := 8#32
  let v1024 : BitVec 32 := Scalar.muli v2 c8_i32_877
  let v1025 : BitVec 32 := Scalar.addi c0_i32_878 v1024
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_879 : BitVec 32 := 4#32
  let v1026 : BitVec 32 := Scalar.muli v5 c4_i32_879
  let v1027 : BitVec 32 := Scalar.addi v1025 v1026
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c2_i32_8 : BitVec 32 := 2#32
  let c2_i32_2 : BitVec 32 := 2#32
  let c0_i32 : BitVec 32 := 0#32
  let v11 : BitVec 1 := Scalar.cmpi .eq c2_i32_2 c0_i32
  let c1_i32_3 : BitVec 32 := 1#32
  let v12 : BitVec 32 := Scalar.select v11 c1_i32_3 c2_i32_2
  let v13 : BitVec 32 := Scalar.remsi v8 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v22 : BitVec 32 := Scalar.muli c2_i32_8 v20
  let v23 : BitVec 32 := Scalar.subi v21 v22
  let c1_i32_880 : BitVec 32 := 1#32
  let v1028 : BitVec 32 := Scalar.muli v23 c1_i32_880
  let v1029 : BitVec 32 := Scalar.addi v1027 v1028
  v1029.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | .hbm, ⟨14, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Program.lean ====
/-
# `Program`: the kernel's body as a list of actions

The body of the kernel is a straight line of DMA starts, DMA waits and casts. Here each kind of action is written once,
over the staging slot, the chunk's offset and the semaphore it uses, and the two branches of the body (the blocks are
swapped between the two values of `y`; the blocks stay) are shown to be lists of such actions.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Tactic

@[expose] public section

noncomputable section

namespace Cert.Exchange

open Cert.KernelIdeal Cert.KernelIdeal.Gen
open Idealize.ShloMosaic Idealize.ShloMosaic.TcCoe
open Idealize.SL.Sem

variable {F : FTy → Type} [FloatOps F]

/-- What a device runs. -/
abbrev P (F : FTy → Type) [FloatOps F] : Type 1 := Prog (TpuEff nD τ sig (Elt F) Λ₀ .tc) PUnit

/-- The chunk at `off` fits in the block. -/
abbrev Fits (off : Fin 3 → ℕ) : Prop := ∀ a, off a + S1x128x2048.size a ≤ S1x4096x2048.size a
/-- The slot at `off` fits in its scratch buffer. -/
abbrev FitsSlot (off : Fin 3 → ℕ) : Prop := ∀ a, off a + S1x128x2048.size a ≤ S2x128x2048.size a

/-- A chunk of 128 rows of the device's `x`. -/
abbrev xAt (off : Fin 3 → ℕ) (h : Fits off) : Memref sig .tc .hbm S128x2048 .f32 :=
  ((Memref.whole main_arg0 : Memref sig .tc .hbm S1x4096x2048 .f32).slice (Rect.unit (s := S1x4096x2048) off S1x128x2048.size h) (fun _ => rfl)).squeeze
    S128x2048 squeezes_S1x128x2048_S128x2048
/-- A chunk of 128 rows of the device's result. -/
abbrev oAt (off : Fin 3 → ℕ) (h : Fits off) : Memref sig .tc .hbm S128x2048 .bf16 :=
  ((Memref.whole main_v1 : Memref sig .tc .hbm S1x4096x2048 .bf16).slice (Rect.unit (s := S1x4096x2048) off S1x128x2048.size h) (fun _ => rfl)).squeeze
    S128x2048 squeezes_S1x128x2048_S128x2048
/-- A slot of the buffer the chunks of `x` are loaded into. -/
abbrev iAt (off : Fin 3 → ℕ) (h : FitsSlot off) : Memref sig .tc .vmem S128x2048 .f32 :=
  ((Memref.whole cc0_scratch0 : Memref sig .tc .vmem S2x128x2048 .f32).slice (Rect.unit (s := S2x128x2048) off S1x128x2048.size h) (fun _ => rfl)).squeeze
    S128x2048 squeezes_S1x128x2048_S128x2048
/-- A slot of the buffer the cast chunks are sent from. -/
abbrev bAt (off : Fin 3 → ℕ) (h : FitsSlot off) : Memref sig .tc .vmem S128x2048 .bf16 :=
  ((Memref.whole cc0_scratch1 : Memref sig .tc .vmem S2x128x2048 .bf16).slice (Rect.unit (s := S2x128x2048) off S1x128x2048.size h) (fun _ => rfl)).squeeze
    S128x2048 squeezes_S1x128x2048_S128x2048

/-- The offset of a slot. -/
abbrev slotOff (s : Fin 2) : Fin 3 → ℕ := ![s.val, 0, 0]
theorem slotFits (s : Fin 2) : FitsSlot (slotOff s) := by revert s; decide
theorem slotWords (s : Fin 2) : (Rect.unit (s := S2x128x2048) (slotOff s) S1x128x2048.size (slotFits s)).WholeWords (EltTy.packing .bf16) := by
  fin_cases s
  · exact Facts₀.wordsbf16_S2x128x2048_S1x128x2048_0_0_0
  · exact Facts₀.wordsbf16_S2x128x2048_S1x128x2048_1_0_0

/-- A chunk's offset whose rows are whole memory words. -/
structure Chunk where
  off : Fin 3 → ℕ
  fits : Fits off
  words : (Rect.unit (s := S1x4096x2048) off S1x128x2048.size fits).WholeWords (EltTy.packing .bf16)

abbrev Chunk.x (k : Chunk) : Memref sig .tc .hbm S128x2048 .f32 := xAt k.off k.fits
abbrev Chunk.o (k : Chunk) : Memref sig .tc .hbm S128x2048 .bf16 := oAt k.off k.fits
abbrev iSlot (s : Fin 2) : Memref sig .tc .vmem S128x2048 .f32 := iAt (slotOff s) (slotFits s)
abbrev bSlot (s : Fin 2) : Memref sig .tc .vmem S128x2048 .bf16 := bAt (slotOff s) (slotFits s)

theorem Chunk.wo (k : Chunk) : k.o.view.WordExact := ((Memref.isWhole_whole _).wordExact_slice rfl _ k.words).reshape _ _
theorem bSlot_we (s : Fin 2) : (bSlot s).view.WordExact := ((Memref.isWhole_whole _).wordExact_slice rfl _ (slotWords s)).reshape _ _

/-! ## The actions -/

/-- Start loading a chunk of `x` into slot `s`. -/
def loadP (s : Fin 2) (k : Chunk) (q : DmaSem sig) : P F :=
  Prog.lift (.enqueueDma k.x (.here (iSlot s)) (.dma q) ((View.wordExact_bits rfl).reshape _ _) ((View.wordExact_bits rfl).reshape _ _) ⟨Or.inl rfl, trivial⟩)
/-- Wait for the load. -/
def waitLoadP (s : Fin 2) (k : Chunk) (q : DmaSem sig) : P F :=
  Prog.lift (.waitDma2 q k.x (iSlot s) ((View.wordExact_bits rfl).reshape _ _) ((View.wordExact_bits rfl).reshape _ _))
/-- Cast slot `s`. -/
def castP (s : Fin 2) : Prog (TpuEff nD τ sig (Elt F) Λ₀ .tc) PUnit := do
  let v : Vec F S1x128x2048 .f32 ← Prog.lift (.load (Memref.whole cc0_scratch0 : Memref sig .tc .vmem S2x128x2048 .f32)
    (Rect.unit (s := S2x128x2048) (slotOff s) S1x128x2048.size (slotFits s)).toLoadRect (View.loadsAt_vmem Facts₀.h_S1x128x2048))
  let _ : Vec F S1x128x2048 .bf16 ← Prog.lift (.load (Memref.whole cc0_scratch1 : Memref sig .tc .vmem S2x128x2048 .bf16)
    (Rect.unit (s := S2x128x2048) (slotOff s) S1x128x2048.size (slotFits s)).toLoadRect (View.loadsAt_vmem Facts₀.h_S1x128x2048))
  Prog.lift (.store (Memref.whole cc0_scratch1 : Memref sig .tc .vmem S2x128x2048 .bf16)
    (Rect.unit (s := S2x128x2048) (slotOff s) S1x128x2048.size (slotFits s)) (k0_pay1 v) Finset.univ
    (View.stores_vmem Facts₀.h_S1x128x2048 ((Memref.isWhole_whole _).storeExact_slice rfl _ (by
      fin_cases s
      · exact Facts₀.packedbf16_S2x128x2048_S1x128x2048_0_0_0
      · exact Facts₀.packedbf16_S2x128x2048_S1x128x2048_1_0_0)) (fun _ => rfl)) (.inl rfl))
/-- Start storing slot `s` into the device's own result. -/
def storeP (s : Fin 2) (k : Chunk) (q : DmaSem sig) : P F :=
  Prog.lift (.enqueueDma (bSlot s) (.here k.o) (.dma q) (bSlot_we s) k.wo ⟨Or.inl rfl, trivial⟩)
/-- Wait for that store. -/
def waitStoreP (s : Fin 2) (k : Chunk) (q : DmaSem sig) : P F :=
  Prog.lift (.waitDma2 q (bSlot s) k.o (bSlot_we s) k.wo)
/-- Start sending slot `s` into device `n`'s result. -/
def ySendP (n : Dev nD) (s : Fin 2) (k : Chunk) (q q' : DmaSem sig) : P F :=
  Prog.lift (.enqueueDma (bSlot s) (.remote (Dev.tc n) k.o (.dma q)) (.dma q') (bSlot_we s) k.wo ⟨⟨rfl, Or.inl rfl⟩, trivial⟩)
/-- Wait until slot `s` has left. -/
def waitSentP (s : Fin 2) (k : Chunk) (q : DmaSem sig) : P F :=
  Prog.lift (.waitDma2 q k.o (bSlot s) k.wo (bSlot_we s))
/-- Start forwarding a chunk of the result into the same rows of device `n`'s. -/
def fwdP (n : Dev nD) (k : Chunk) (q q' : DmaSem sig) : P F :=
  Prog.lift (.enqueueDma k.o (.remote (Dev.tc n) k.o (.dma q)) (.dma q') k.wo k.wo ⟨⟨rfl, Or.inl rfl⟩, trivial⟩)
/-- Wait for a forward (either end of it). -/
def waitFwdP (k : Chunk) (q : DmaSem sig) : P F :=
  Prog.lift (.waitDma2 q k.o k.o k.wo k.wo)
/-- Signal device `n`'s barrier. -/
def signalP (n : Dev nD) : P F := semSignalWord n ((SemArray.scalar (sig.barrier 0 rfl) : Sems sig S_).sem) 1#32
/-- Wait for three signals. -/
def waitBarP : P F := semWaitWord ((SemArray.scalar (sig.barrier 0 rfl) : Sems sig S_).sem) 3#32

/-- One action after another. -/
def seqP : List (P F) → P F
  | [] => .ret ⟨⟩
  | p :: ps => p.bind fun _ => seqP ps

/-! ## The chunks

Chunk `i` is the `i % 8`-th of the eight of region `i / 8`. In the swap the regions are the device's own quarter, its
`z`-partner's, its `x`-neighbour's and the quarter diagonal to its own; where the blocks stay they are simply the four
quarters in order. -/

/-- The offsets the kernel computes in the swap. -/
def swapChunk (c : Dev nD) (i : Fin 32) : Chunk :=
  let r : Fin 8 := ⟨i.val % 8, Nat.mod_lt _ (by decide)⟩
  match i.val / 8 with
  | 0 => ⟨_, Facts₀.k0_off2_inb c r, Facts₀.k0_off2_wordsbf16 c r⟩
  | 1 => ⟨_, Facts₀.k0_off4_inb c r, Facts₀.k0_off4_wordsbf16 c r⟩
  | 2 => ⟨_, Facts₀.k0_off5_inb c r, Facts₀.k0_off5_wordsbf16 c r⟩
  | _ => ⟨_, Facts₀.k0_off3_inb c r, Facts₀.k0_off3_wordsbf16 c r⟩

theorem keepFits (i : Fin 32) : Fits ![0, 128 * i.val, 0] := by revert i; decide
theorem keepWords : ∀ i : Fin 32, (Rect.unit (s := S1x4096x2048) ![0, 128 * i.val, 0] S1x128x2048.size (keepFits i)).WholeWords (EltTy.packing .bf16) := by
  decide +kernel

/-- The chunks in order. -/
def keepChunk (i : Fin 32) : Chunk := ⟨_, keepFits i, keepWords i⟩

/-- The chunks of a branch: `b` says whether the blocks are swapped. -/
def chunk (b : Bool) (c : Dev nD) (i : Fin 32) : Chunk := if b then swapChunk c i else keepChunk i

/-! ## The two branches as lists of actions -/

/-- The three neighbours a device exchanges with. -/
inductive Peer where | x | y | z
deriving DecidableEq

/-- One action: over slots `s`, chunks `i`, rounds `r` and semaphores `q`. -/
inductive Act where
  | signal (p : Peer)
  | waitBar
  | load (s : Fin 2) (i : Fin 32) (r : ℕ)
  | waitLoad (s : Fin 2) (i : Fin 32) (r : ℕ)
  | cast (s : Fin 2) (i : Fin 32)
  | store (s : Fin 2) (i : Fin 32) (r : ℕ)
  | waitStore (s : Fin 2) (i : Fin 32) (r : ℕ)
  | ySend (s : Fin 2) (i : Fin 32) (r : ℕ) (q : Fin 57)
  | waitSent (s : Fin 2) (i : Fin 32) (r : ℕ)
  | waitY (s : Fin 2) (i : Fin 32) (q : Fin 57)
  | fwd (p : Peer) (i : Fin 32) (q q' : Fin 57)
  | waitFwd (i : Fin 32) (q : Fin 57)

/-- The semaphores of the loads and of the stores and sends, by slot. -/
abbrev loadQ (s : Fin 2) : Fin 57 := ⟨1 + s.val, by omega⟩
abbrev outQ (s : Fin 2) : Fin 57 := ⟨3 + s.val, by omega⟩

/-- The device a transfer is addressed to, as the kernel computes it: `ny` for the `y`-neighbour, which it computes from `pi`. -/
def toDev (c ny : Dev nD) : Peer → Dev nD
  | .y => ny
  | .x => ⟨k0_dev6 c, Facts₀.k0_dev6_lt c⟩
  | .z => ⟨k0_dev7 c, Facts₀.k0_dev7_lt c⟩
/-- The device a signal is addressed to. -/
def sigDev (c : Dev nD) : Peer → Dev nD
  | .y => ⟨k0_dev1 c, Facts₀.k0_dev1_lt c⟩
  | .x => ⟨k0_dev2 c, Facts₀.k0_dev2_lt c⟩
  | .z => ⟨k0_dev3 c, Facts₀.k0_dev3_lt c⟩

/-- What an action runs. -/
def Act.prog (b : Bool) (c ny : Dev nD) : Act → P F
  | .signal p => signalP (sigDev c p)
  | .waitBar => waitBarP
  | .load s i _ => loadP s (chunk b c i) (loadQ s)
  | .waitLoad s i _ => waitLoadP s (chunk b c i) (loadQ s)
  | .cast s _ => castP s
  | .store s i _ => storeP s (chunk b c i) (outQ s)
  | .waitStore s i _ => waitStoreP s (chunk b c i) (outQ s)
  | .ySend s i _ q => ySendP ny s (chunk b c i) (outQ s) q
  | .waitSent s i _ => waitSentP s (chunk b c i) (outQ s)
  | .waitY s i q => waitStoreP s (chunk b c i) q
  | .fwd p i q q' => fwdP (toDev c ny p) (chunk b c i) q q'
  | .waitFwd i q => waitFwdP (chunk b c i) q

def slot (j : ℕ) : Fin 2 := ⟨j % 2, Nat.mod_lt _ (by decide)⟩
def cel (n : ℕ) : Fin 57 := ⟨n % 57, Nat.mod_lt _ (by decide)⟩
def chk (n : ℕ) : Fin 32 := ⟨n % 32, Nat.mod_lt _ (by decide)⟩
/-- The chunk sent `j`-th over `y`: the device's own quarter first, then the first half of the diagonal one. -/
def yChunk (j : ℕ) : Fin 32 := if j < 8 then chk j else chk (24 + (j - 8))

/-- The handshake at entry. -/
def entryActs : List Act := [.signal .y, .signal .x, .signal .z, .waitBar]

/-- One turn of the swap's pipeline over `y`. -/
def turn (j : ℕ) : List Act :=
  [.waitLoad (slot j) (yChunk j) (j / 2)]
  ++ (if 2 ≤ j then [.waitSent (slot j) (yChunk (j - 2)) (j / 2 - 1)] else [])
  ++ [.cast (slot j) (yChunk j), .ySend (slot j) (yChunk j) (j / 2) (cel (5 + j))]
  ++ (if j + 2 < 12 then [.load (slot j) (yChunk (j + 2)) (j / 2 + 1)] else [])
  ++ (if 1 ≤ j ∧ j ≤ 8 then
      [.waitY (slot (j - 1)) (chk (j - 1)) (cel (5 + (j - 1))),
       .fwd .x (chk (j - 1)) (cel (17 + (j - 1))) (cel (25 + (j - 1))), .fwd .z (chk (j - 1)) (cel (33 + (j - 1))) (cel (41 + (j - 1)))] else [])

/-- The swap after the handshake. -/
def swapActs : List Act :=
  [.load 0 (yChunk 0) 0, .load 1 (yChunk 1) 0]
  ++ (List.range 12).flatMap turn
  ++ [.waitFwd (chk 12) (cel 45), .fwd .x (chk 12) (cel 49) (cel 51), .waitFwd (chk 13) (cel 46), .fwd .x (chk 13) (cel 50) (cel 52),
      .waitFwd (chk 22) (cel 31), .fwd .z (chk 22) (cel 53) (cel 55), .waitFwd (chk 23) (cel 32), .fwd .z (chk 23) (cel 54) (cel 56),
      .waitSent 0 (yChunk 10) 5, .waitSent 1 (yChunk 11) 5]
  ++ (List.range 4).map (fun j => .waitY (slot j) (yChunk (8 + j)) (cel (13 + j)))
  ++ (List.range 6).map (fun k => .waitFwd (chk (16 + k)) (cel (25 + k)))
  ++ (List.range 4).map (fun k => .waitFwd (chk (8 + k)) (cel (41 + k)))
  ++ [.waitFwd (chk 14) (cel 47), .waitFwd (chk 15) (cel 48)]
  ++ [.waitFwd (chk 28) (cel 51), .waitFwd (chk 29) (cel 52), .waitFwd (chk 30) (cel 55), .waitFwd (chk 31) (cel 56)]
  ++ (List.range 8).flatMap (fun k => [.waitFwd (chk k) (cel (17 + k)), .waitFwd (chk k) (cel (33 + k))])
  ++ [.waitFwd (chk 12) (cel 49), .waitFwd (chk 13) (cel 50), .waitFwd (chk 22) (cel 53), .waitFwd (chk 23) (cel 54)]

/-- The branch where the blocks stay, after the handshake: chunk by chunk. -/
def keepActs : List Act :=
  (List.range 32).flatMap fun k =>
    [.load (slot k) (chk k) (k / 2), .waitLoad (slot k) (chk k) (k / 2), .cast (slot k) (chk k), .store (slot k) (chk k) (k / 2), .waitStore (slot k) (chk k) (k / 2)]

/-- What a branch runs after the handshake. -/
def acts (b : Bool) : List Act := if b then swapActs else keepActs

def run (b : Bool) (c ny : Dev nD) (l : List Act) : P F := seqP (l.map (Act.prog b c ny))

/-- The word the kernel reads its own place from: `y` of device `c`. -/
abbrev yWord (c : Dev nD) : BitVec 32 := Scalar.remsi (Scalar.divsi (Dev.word c) 4#32) 2#32

/-- The device's own block is the one it is to hold. -/
abbrev stays (c : Dev nD) (v : BitVec 32) : BitVec 1 := Scalar.cmpi .ne (Scalar.extui (Scalar.cmpi .eq v (yWord c)) : BitVec 32) 0#32

theorem bind_bind {α β γ : Type} (p : Prog (TpuEff nD τ sig (Elt F) Λ₀ .tc) α) (f : α → Prog (TpuEff nD τ sig (Elt F) Λ₀ .tc) β)
    (g : β → Prog (TpuEff nD τ sig (Elt F) Λ₀ .tc) γ) : (p.bind f).bind g = p.bind fun a => (f a).bind g := Prog.bind_assoc _ _ _

theorem run_append (b : Bool) (c ny : Dev nD) (l l' : List Act) : (run (F := F) b c ny l).bind (fun _ => run b c ny l') = run b c ny (l ++ l') := by
  induction l with
  | nil => rfl
  | cons a l ih =>
    show ((Act.prog b c ny a).bind fun _ => run b c ny l).bind _ = (Act.prog b c ny a).bind fun _ => run b c ny (l ++ l')
    exact (Prog.bind_assoc _ _ _).trans (congrArg _ (funext fun _ => ih))

section Words
variable (c : Dev nD)
/-- The words of the body: the device's places on the mesh and the first rows of the regions. -/
abbrev wX : BitVec 32 := Scalar.remsi (Scalar.divsi (Dev.word c) 8#32) 2#32
abbrev wZ : BitVec 32 := Scalar.remsi (Scalar.divsi (Dev.word c) 1#32) 4#32
abbrev wTwo : BitVec 32 := Scalar.select (Scalar.cmpi .eq 2#32 0#32) 1#32 2#32
abbrev wR : BitVec 32 := Scalar.remsi (wZ c) wTwo
abbrev wB : BitVec 32 :=
  Scalar.select (Scalar.andi (Scalar.xori (Scalar.cmpi .slt (wR c) 0#32) (Scalar.cmpi .slt wTwo 0#32)) (Scalar.cmpi .ne (wR c) 0#32)) (Scalar.addi (wR c) wTwo) (wR c)
abbrev wZp : BitVec 32 := Scalar.subi (Scalar.addi (wZ c) 1#32) (Scalar.muli 2#32 (wB c))
abbrev wMe : BitVec 32 := Scalar.muli (Scalar.addi (Scalar.muli 2#32 (wX c)) (wB c)) 1024#32
abbrev wPx : BitVec 32 := Scalar.muli (Scalar.addi (Scalar.muli 2#32 (Scalar.subi 1#32 (wX c))) (wB c)) 1024#32
abbrev wPz : BitVec 32 := Scalar.muli (Scalar.addi (Scalar.muli 2#32 (wX c)) (Scalar.subi 1#32 (wB c))) 1024#32
end Words

/-- The swap's part of the body, as printed. -/
def swapPart (c : Dev nD) (v : BitVec 32) (hw : k0_chk1 c v) (p : Σ' (_ : BitVec 32) (_ : BitVec 32), BitVec 32) : P F :=
  if h2 : k0_cond2 c v = 1#1 then
    (k0_part85 (F := F) (Memref.whole main_arg0) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12
        c (wX c) (yWord c) (wZ c) v hw (wZp c) (wMe c) (wPx c) (wPz c) p.1 h2).bind fun _ =>
      (Act.prog true c ⟨k0_dev4 c v, k0_dev4_lt c v hw h2⟩ (.waitFwd (chk 23) (cel 54))).bind fun _ => .ret ⟨⟩
  else .ret ⟨⟩

/-- The handshake and the branch where the blocks stay, as printed. -/
def keepPart (c : Dev nD) (v : BitVec 32) : Prog (TpuEff nD τ sig (Elt F) Λ₀ .tc) (Σ' (_ : BitVec 32) (_ : BitVec 32), BitVec 32) :=
  k0_part87 (F := F) (Memref.whole main_arg0) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12
    c (wX c) (yWord c) (wZ c) v (wB c) (wZp c) 1#32

/-- The body from the point where it has read where its block goes and checked the devices it computes from that. -/
def rest (c : Dev nD) (v : BitVec 32) (hw : k0_chk1 c v) : P F :=
  (keepPart c v).bind fun p => swapPart c v hw p

set_option maxRecDepth 100000 in
/-- The body: it reads its place and one word of `pi`, checks, and goes on with `rest`. -/
theorem body_eq :
    cc0_body (F := F) (Memref.whole main_arg0) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12
      = .op .deviceId fun d => smemLoadElt (Memref.whole cc0_stg0_0 : Memref sig .tc .smem S2 .i32)
      (Rect.unit (s := S2) (k0_off1 d) S1.size (Facts₀.k0_off1_inb d)) (View.loads_smem_one rfl numel1_S1)
      (Shape.Idx.first (numel1_S1.symm ▸ Nat.one_pos)) fun v => .op (.assume (k0_chk1 d v) (k0_chk1.dec d v)) fun hw => rest d v hw.down := by
  rfl

set_option maxRecDepth 100000 in
set_option maxHeartbeats 0 in
theorem swap_eq (c : Dev nD) (v2 v5 v8 : BitVec 32) (v10 : Elt F .i32) (hw : k0_chk1 c v10) (v23 v26 v30 v34 v39 : BitVec 32) (h2 : k0_cond2 c v10 = 1#1) :
    ((k0_part85 (F := F) (Memref.whole main_arg0) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 c v2 v5 v8 v10 hw v23 v26 v30 v34 v39 h2).bind fun _ =>
      (Act.prog true c ⟨k0_dev4 c v10, k0_dev4_lt c v10 hw h2⟩ (.waitFwd (chk 23) (cel 54))).bind fun _ => .ret ⟨⟩)
      = run true c ⟨k0_dev4 c v10, k0_dev4_lt c v10 hw h2⟩ swapActs := by rfl

set_option maxRecDepth 100000 in
set_option maxHeartbeats 0 in
theorem keep_eq (c : Dev nD) :
    (k0_part37 (F := F) (Memref.whole main_arg0) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12).bind (fun _ => run false c c [.store 1 (chk 31) 15, .waitStore 1 (chk 31) 15]) = run false c c keepActs := by rfl

set_option maxRecDepth 100000 in
theorem part87_eq (c : Dev nD) (v2 v5 v8 : BitVec 32) (v10 : Elt F .i32) (v20 v23 k : BitVec 32) :
    k0_part87 (F := F) (Memref.whole main_arg0) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 c v2 v5 v8 v10 v20 v23 k
      = (run true c c entryActs).bind fun _ =>
        if Scalar.cmpi .ne (Scalar.extui (Scalar.cmpi .eq v10 v5) : BitVec 32) 0#32 = 1#1 then
          (k0_part37 (F := F) (Memref.whole main_arg0) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12).bind fun _ => (run false c c [.store 1 (chk 31) 15, .waitStore 1 (chk 31) 15]).bind fun _ =>
            .ret ⟨Scalar.muli (Scalar.addi (Scalar.muli 2#32 (Scalar.subi k v2)) (Scalar.subi 1#32 v20)) 1024#32, Scalar.extui (Scalar.cmpi .ne v10 v5), 0#32⟩
        else .ret ⟨Scalar.muli (Scalar.addi (Scalar.muli 2#32 (Scalar.subi k v2)) (Scalar.subi 1#32 v20)) 1024#32, Scalar.extui (Scalar.cmpi .ne v10 v5), 0#32⟩ := by rfl

/-- `run` does not look at the branch or the `y`-neighbour in the handshake. -/
theorem run_entry (b : Bool) (c ny : Dev nD) : run (F := F) b c ny entryActs = run true c c entryActs := rfl

/-- Where the blocks are exchanged the body is the handshake and the swap's actions. -/
theorem rest_swap (c : Dev nD) (v : BitVec 32) (hw : k0_chk1 c v) (h : stays c v ≠ 1#1) (h2 : k0_cond2 c v = 1#1) :
    rest (F := F) c v hw = run true c ⟨k0_dev4 c v, k0_dev4_lt c v hw h2⟩ (entryActs ++ swapActs) := by
  unfold rest keepPart
  rw [part87_eq, ← run_append, run_entry true c ⟨k0_dev4 c v, k0_dev4_lt c v hw h2⟩, if_neg h, bind_bind]
  refine congrArg _ (funext fun _ => ?_)
  show swapPart c v hw _ = _
  unfold swapPart
  rw [dif_pos h2]
  exact swap_eq c _ _ _ v hw _ _ _ _ _ h2

/-- Where the blocks stay it is the handshake and the copies. -/
theorem rest_keep (c : Dev nD) (v : BitVec 32) (hw : k0_chk1 c v) (h : stays c v = 1#1) (h2 : k0_cond2 c v ≠ 1#1) :
    rest (F := F) c v hw = run false c c (entryActs ++ keepActs) := by
  unfold rest keepPart
  rw [part87_eq, ← run_append, run_entry false, if_pos h, bind_bind]
  refine congrArg _ (funext fun _ => ?_)
  rw [← keep_eq, bind_bind]
  refine congrArg _ (funext fun _ => ?_)
  rw [bind_bind]
  refine (congrArg _ (funext fun _ => ?_)).trans (run_append false c c [.store 1 (chk 31) 15, .waitStore 1 (chk 31) 15] [])
  show swapPart c v hw _ = _
  unfold swapPart
  rw [dif_neg h2]
  rfl

end Cert.Exchange
end
-- ==== Proof.Plan.lean ====
/-
# `Plan`: who holds what, as finite data

The protocol of the kernel as tables: for every semaphore of a device how many rounds it has, who pays each round and
what the round hands over; for every action what a device must hold to run it and what it holds afterwards. Whether the
two branches of the body can be run to their end within these tables is a computation (`exec`), carried out once for
all devices: the tables speak of a device's neighbours by direction only.
-/
module

public import proofs.«01_k».proof.Proof.Program

@[expose] public section

namespace Cert.Exchange

open Cert.KernelIdeal Cert.KernelIdeal.Gen
open Idealize.ShloMosaic Idealize.ShloMosaic.TcCoe

/-! ## The mesh -/

/-- The device whose place differs from that of `c` in the bits of `m`: bit 3 is `x`, bit 2 is `y`, bits 1 and 0 are `z`. -/
def far (m : Fin 16) (c : Dev nD) : Dev nD := ⟨(c.val ^^^ m.val) % 16, Nat.mod_lt _ (by decide)⟩

/-- The bit in which a neighbour differs. -/
def Peer.mask : Peer → Fin 16
  | .y => 4
  | .x => 8
  | .z => 1

instance : Fintype Peer := ⟨{.y, .x, .z}, by rintro (_ | _ | _) <;> decide⟩

theorem far_far : ∀ (m : Fin 16) (c : Dev nD), far m (far m c) = c := by decide +kernel
theorem far_comm : ∀ (m n : Fin 16) (c : Dev nD), far m (far n c) = far (m ^^^ n) c := by decide +kernel
theorem far_zero : ∀ c : Dev nD, far 0 c = c := by decide +kernel

theorem sigDev_eq (c : Dev nD) (p : Peer) : sigDev c p = far p.mask c := by
  cases p
  · revert c; decide +kernel
  · revert c; decide +kernel
  · revert c; decide +kernel
theorem toX_eq : ∀ c : Dev nD, (⟨k0_dev6 c, Facts₀.k0_dev6_lt c⟩ : Dev nD) = far 8 c := by decide +kernel
theorem toZ_eq : ∀ c : Dev nD, (⟨k0_dev7 c, Facts₀.k0_dev7_lt c⟩ : Dev nD) = far 1 c := by decide +kernel
theorem toDev_eq (c ny : Dev nD) (h : ny = far 4 c) (p : Peer) : toDev c ny p = far p.mask c := by
  cases p
  · exact toX_eq c
  · exact h
  · exact toZ_eq c

/-! ## The chunks' places -/

/-- The block of 128 rows that chunk `i` of device `c` is. -/
def blk (b : Bool) (c : Dev nD) (i : Fin 32) : Fin 32 :=
  if b then ⟨(i.val ^^^ (8 * (2 * (c.val / 8) + c.val % 2))) % 32, Nat.mod_lt _ (by decide)⟩ else i

/-- The index under which a neighbour knows chunk `i`. -/
def turnIdx (p : Peer) (i : Fin 32) : Fin 32 :=
  match p with
  | .y => i
  | .x => ⟨(i.val ^^^ 16) % 32, Nat.mod_lt _ (by decide)⟩
  | .z => ⟨(i.val ^^^ 8) % 32, Nat.mod_lt _ (by decide)⟩

theorem turnIdx_turnIdx : ∀ (p : Peer) (i : Fin 32), turnIdx p (turnIdx p i) = i := by
  rintro (_ | _ | _) <;> decide +kernel
theorem blk_far : ∀ (p : Peer) (c : Dev nD) (i : Fin 32), blk true (far p.mask c) (turnIdx p i) = blk true c i := by
  rintro (_ | _ | _) <;> decide +kernel
theorem blk_inj : ∀ (b : Bool) (c : Dev nD) (i j : Fin 32), blk b c i = blk b c j → i = j := by decide +kernel

theorem Chunk.ext' {k l : Chunk} (h : k.off = l.off) : k = l := by
  cases k; cases l; cases h; rfl

theorem swapChunk_off : ∀ (c : Dev nD) (i : Fin 32), (swapChunk c i).off = ![0, 128 * (blk true c i).val, 0] := by decide +kernel

/-- Every chunk is one of the 32 blocks of 128 rows. -/
theorem chunk_eq (b : Bool) (c : Dev nD) (i : Fin 32) : chunk b c i = keepChunk (blk b c i) := by
  cases b
  · rfl
  · exact Chunk.ext' (swapChunk_off c i)

/-- Whose `x` the chunk finally holds, as a difference of places. -/
def org (b : Bool) (i : Fin 32) : Fin 16 :=
  if b then
    if i.val < 8 then 4 else if i.val < 16 then 5 else if i.val < 24 then 12 else if i.val < 28 then 4 else 13
  else 0

/-! ## What a device can hold -/

inductive Res where
  /-- The standing at the start of round `r` of the own semaphore `q`. -/
  | pos (q : Fin 57) (r : ℕ)
  /-- The right to pay duty `d` of round `r` of semaphore `q` of the device at `m`. -/
  | tok (m : Fin 16) (q : Fin 57) (r : ℕ) (d : Peer)
  /-- The credit of one payment of the own semaphore `q`. -/
  | cred (q : Fin 57)
  /-- The own result's chunk `i`, with any contents. -/
  | mine (i : Fin 32)
  /-- The chunk of a neighbour's result on the rows of the own chunk `i`, with any contents. -/
  | out (p : Peer) (i : Fin 32)
  /-- One half of the own result's chunk `i`, with its final contents. -/
  | got (i : Fin 32) (h : Bool)
  /-- Chunk `i` of the own `x`. -/
  | x (i : Fin 32)
  /-- Slot `s` of the buffer loads go to, holding a chunk of `x`, or anything. -/
  | xin (s : Fin 2) (o : Option (Fin 32))
  /-- Slot `s` of the buffer of cast chunks, holding a cast chunk, or anything. -/
  | xbf (s : Fin 2) (o : Option (Fin 32))

def Peer.same : Peer → Peer → Bool
  | .x, .x => true
  | .y, .y => true
  | .z, .z => true
  | _, _ => false
theorem Peer.eq_of_same {p q : Peer} (h : p.same q = true) : p = q := by
  cases p <;> cases q <;> first | rfl | cases h

def sameFin {n : ℕ} (a b : Fin n) : Bool := Nat.beq a.val b.val
theorem eq_of_sameFin {n : ℕ} {a b : Fin n} (h : sameFin a b = true) : a = b := Fin.ext (Nat.eq_of_beq_eq_true h)
def sameO : Option (Fin 32) → Option (Fin 32) → Bool
  | none, none => true
  | some a, some b => sameFin a b
  | _, _ => false
theorem eq_of_sameO {a b : Option (Fin 32)} (h : sameO a b = true) : a = b := by
  cases a <;> cases b
  · rfl
  · cases h
  · cases h
  · exact congrArg some (eq_of_sameFin h)

/-- Equality of two holdings, as a computation. -/
def Res.same : Res → Res → Bool
  | .pos q r, .pos q' r' => sameFin q q' && Nat.beq r r'
  | .tok m q r d, .tok m' q' r' d' => sameFin q q' && (sameFin m m' && (Nat.beq r r' && d.same d'))
  | .cred q, .cred q' => sameFin q q'
  | .mine i, .mine i' => sameFin i i'
  | .out p i, .out p' i' => sameFin i i' && p.same p'
  | .got i h, .got i' h' => sameFin i i' && (h == h')
  | .x i, .x i' => sameFin i i'
  | .xin s o, .xin s' o' => sameFin s s' && sameO o o'
  | .xbf s o, .xbf s' o' => sameFin s s' && sameO o o'
  | _, _ => false

theorem Res.eq_of_same {a b : Res} (h : a.same b = true) : a = b := by
  cases a <;> cases b <;> first | (cases h; done) | skip
  all_goals simp only [Res.same, Bool.and_eq_true] at h
  · rw [eq_of_sameFin h.1, Nat.eq_of_beq_eq_true h.2]
  · rw [eq_of_sameFin h.1, eq_of_sameFin h.2.1, Nat.eq_of_beq_eq_true h.2.2.1, Peer.eq_of_same h.2.2.2]
  · rw [eq_of_sameFin h]
  · rw [eq_of_sameFin h]
  · rw [eq_of_sameFin h.1, Peer.eq_of_same h.2]
  · rw [eq_of_sameFin h.1, eq_of_beq h.2]
  · rw [eq_of_sameFin h]
  · rw [eq_of_sameFin h.1, eq_of_sameO h.2]
  · rw [eq_of_sameFin h.1, eq_of_sameO h.2]

def sameL : List Res → List Res → Bool
  | [], [] => true
  | a :: l, b :: k => a.same b && sameL l k
  | _, _ => false
theorem eq_of_sameL : ∀ {l k : List Res}, sameL l k = true → l = k
  | [], [], _ => rfl
  | [], _ :: _, h => by cases h
  | _ :: _, [], h => by cases h
  | a :: l, b :: k, h => by
    simp only [sameL, Bool.and_eq_true] at h
    rw [Res.eq_of_same h.1, eq_of_sameL h.2]

/-! ## The semaphores -/

/-- How many rounds a semaphore has. -/
def rounds (b : Bool) (q : Fin 57) : ℕ := if q.val = 0 then 1 else if q.val < 5 then (if b then 6 else 16) else (if b then 1 else 0)

/-- Who pays a round: three neighbours the barrier, one payment (named `y`) every other semaphore. -/
def dutyL (b : Bool) (q : Fin 57) (r : ℕ) : List Peer := if r < rounds b q then (if q.val = 0 then [.y, .x, .z] else [.y]) else []

/-- Where a payment comes from. -/
def payer (q : Fin 57) (d : Peer) : Fin 16 :=
  if q.val = 0 then d.mask
  else if q.val < 5 then 0 else if q.val < 17 then 4
  else if q.val < 25 then 0 else if q.val < 33 then 8
  else if q.val < 41 then 0 else if q.val < 49 then 1
  else if q.val < 51 then 0 else if q.val < 53 then 8
  else if q.val < 55 then 0 else 1

/-- The chunks a device writes into a neighbour's result. -/
def outs : Peer → List (Fin 32)
  | .y => [0, 1, 2, 3, 4, 5, 6, 7, 24, 25, 26, 27]
  | .x => [0, 1, 2, 3, 4, 5, 6, 7, 12, 13]
  | .z => [0, 1, 2, 3, 4, 5, 6, 7, 22, 23]

abbrev both (i : Fin 32) : List Res := [.got i false, .got i true]

/-- What a payment hands over. -/
def pay (b : Bool) (q : Fin 57) (r : ℕ) (d : Peer) : List Res :=
  if q.val = 0 then (if b then (outs d).map (.out d) else [])
  else if q.val < 3 then
    let i := if b then yChunk (2 * r + (q.val - 1)) else chk (2 * r + (q.val - 1))
    [.xin (slot (q.val - 1)) (some i), .x i]
  else if q.val < 5 then
    .xbf (slot (q.val - 3)) none :: (if b then [] else both (chk (2 * r + (q.val - 3))))
  else if q.val < 17 then both (yChunk (q.val - 5))
  else if q.val < 25 then [.got (chk (q.val - 17)) false]
  else if q.val < 33 then both (chk (16 + (q.val - 25)))
  else if q.val < 41 then [.got (chk (q.val - 33)) true]
  else if q.val < 49 then both (chk (8 + (q.val - 41)))
  else if q.val < 51 then [.got (chk (12 + (q.val - 49))) false]
  else if q.val < 53 then both (chk (28 + (q.val - 51)))
  else if q.val < 55 then [.got (chk (22 + (q.val - 53))) false]
  else both (chk (30 + (q.val - 55)))

/-- The order of the semaphores: a device waits only on one below all those it still has to pay. -/
def level (q : Fin 57) : ℕ :=
  if q.val = 0 then 1 else if q.val < 5 then 0 else if q.val < 17 then q.val - 3
  else if q.val < 25 then 0 else if q.val < 33 then 20
  else if q.val < 41 then 0 else if q.val < 49 then 20
  else if q.val < 51 then 0 else if q.val < 53 then 21
  else if q.val < 55 then 0 else 21

/-! ## The actions -/

/-- A payment owed to a neighbour: the direction and the semaphore. -/
abbrev Debt := Peer × Fin 57

def Act.debt : Act → List Debt
  | .signal p => [(p, 0)]
  | .ySend _ _ _ q => [(.y, q)]
  | .fwd p _ _ q' => [(p, q')]
  | _ => []

def debts : List Act → List Debt
  | [] => []
  | a :: l => a.debt ++ debts l

/-- Which half of a chunk a forward reads. -/
def half (p : Peer) (i : Fin 32) : Bool := p.same .z && Nat.blt i.val 8

abbrev waitPre (q : Fin 57) (r : ℕ) : List Res := [.pos q r, .cred q]
abbrev waitPost (b : Bool) (q : Fin 57) (r : ℕ) : List Res := .pos q (r + 1) :: pay b q r .y

/-- What an action takes. -/
def Act.pre (b : Bool) : Act → List Res
  | .signal p => .tok p.mask 0 0 p :: (if b then (outs p).map fun i => .mine (turnIdx p i) else [])
  | .waitBar => [.pos 0 0, .cred 0, .cred 0, .cred 0]
  | .load s i r => [.tok 0 (loadQ s) r .y, .pos (loadQ s) r, .xin s none, .x i]
  | .waitLoad s _ r => waitPre (loadQ s) r
  | .cast s i => [.xin s (some i), .xbf s none]
  | .store s i r => [.tok 0 (outQ s) r .y, .pos (outQ s) r, .xbf s (some i), .mine i]
  | .waitStore s _ r => waitPre (outQ s) r
  | .ySend s i r q => [.tok 0 (outQ s) r .y, .pos (outQ s) r, .tok 4 q 0 .y, .xbf s (some i), .out .y i]
  | .waitSent s _ r => waitPre (outQ s) r
  | .waitY _ _ q => waitPre q 0
  | .fwd p i q q' => [.tok 0 q 0 .y, .pos q 0, .tok p.mask q' 0 .y, .got i (half p i), .out p i]
  | .waitFwd _ q => waitPre q 0

/-- What an action leaves. -/
def Act.post (b : Bool) : Act → List Res
  | .signal _ => []
  | .waitBar => .pos 0 1 :: (pay b 0 0 .y ++ (pay b 0 0 .x ++ pay b 0 0 .z))
  | .load s _ r => waitPre (loadQ s) r
  | .waitLoad s _ r => waitPost b (loadQ s) r
  | .cast s i => [.xin s none, .xbf s (some i)]
  | .store s _ r => waitPre (outQ s) r
  | .waitStore s _ r => waitPost b (outQ s) r
  | .ySend s _ r _ => waitPre (outQ s) r
  | .waitSent s _ r => waitPost b (outQ s) r
  | .waitY _ _ q => waitPost b q 0
  | .fwd _ _ q _ => waitPre q 0
  | .waitFwd _ q => waitPost b q 0

/-- A round exists. -/
def live (b : Bool) (q : Fin 57) (r : ℕ) : Bool := Nat.blt r (rounds b q)
/-- A semaphore of chunks of the result. -/
def wide (q : Fin 57) : Bool := Nat.ble 3 q.val
def below (q : Fin 57) (ds : List Debt) : Bool := ds.all fun d => Nat.blt (level q) (level d.2)

/-- When an action is in order, `ds` being what the device owes after it. -/
def Act.ok (b : Bool) (ds : List Debt) : Act → Bool
  | .signal _ => true
  | .waitBar => below 0 ds
  | .load s i r => live b (loadQ s) r && sameL (pay b (loadQ s) r .y) [.xin s (some i), .x i]
  | .waitLoad s _ r => live b (loadQ s) r && below (loadQ s) ds
  | .cast _ _ => true
  | .store s i r => live b (outQ s) r && (sameL (pay b (outQ s) r .y) (.xbf s none :: both i) && sameFin (org b i) 0)
  | .waitStore s _ r => live b (outQ s) r && below (outQ s) ds
  | .ySend s i r q => live b (outQ s) r && (sameL (pay b (outQ s) r .y) [.xbf s none] && (live b q 0 && (sameL (pay b q 0 .y) (both i)
      && (sameFin (org b i) 4 && (wide q && b)))))
  | .waitSent s _ r => live b (outQ s) r && below (outQ s) ds
  | .waitY _ _ q => live b q 0 && (below q ds && wide q)
  | .fwd p i q q' => live b q 0 && (sameL (pay b q 0 .y) [.got i (half p i)] && (live b q' 0 && (sameL (pay b q' 0 .y) (both (turnIdx p i))
      && (sameFin (org b (turnIdx p i)) (org b i ^^^ p.mask) && (wide q && (wide q' && b))))))
  | .waitFwd _ q => live b q 0 && (below q ds && wide q)

/-- Take one holding out of a list. -/
def take1 (r : Res) : List Res → Option (List Res)
  | [] => none
  | a :: l => if a.same r then some l else (take1 r l).map (a :: ·)
/-- Take several. -/
def takeL : List Res → List Res → Option (List Res)
  | [], l => some l
  | r :: rs, l => (take1 r l).bind (takeL rs)

/-- Run actions on a list of holdings. -/
def exec (b : Bool) : List Act → List Res → Option (List Res)
  | [], st => some st
  | a :: l, st => if a.ok b (debts l) then (takeL (a.pre b) st).bind fun r => exec b l (a.post b ++ r) else none

/-- The whole body of a branch. -/
def allActs (b : Bool) : List Act := entryActs ++ acts b

def cells : List (Fin 57) := List.finRange 57
def chunks : List (Fin 32) := List.finRange 32
def toks (b : Bool) : List (Fin 57 × ℕ × Peer) := cells.flatMap fun q => (List.range (rounds b q)).flatMap fun r => (dutyL b q r).map fun d => (q, r, d)

/-- What a device holds at first. -/
def init (b : Bool) : List Res :=
  cells.map (.pos · 0) ++ ((toks b).map (fun t => .tok (payer t.1 t.2.2) t.1 t.2.1 t.2.2) ++ ((debts (allActs b)).map (fun d => .cred d.2)
    ++ (chunks.map .mine ++ (chunks.map .x ++ [.xin 0 none, .xin 1 none, .xbf 0 none, .xbf 1 none]))))

/-- What a device holds at the end. -/
def final (b : Bool) : List Res :=
  cells.map (fun q => .pos q (rounds b q)) ++ (chunks.flatMap both ++ (chunks.map .x ++ [.xin 0 none, .xin 1 none, .xbf 0 none, .xbf 1 none]))

/-- The run of a branch from first to last, everything accounted for. -/
def runs (b : Bool) : Bool :=
  match (exec b (allActs b) (init b)).bind (takeL (final b)) with
  | some [] => true
  | _ => false

set_option maxRecDepth 100000 in
theorem runs_swap : runs true = true := by decide +kernel
set_option maxRecDepth 100000 in
theorem runs_keep : runs false = true := by decide +kernel

theorem exec_all (b : Bool) : (exec b (allActs b) (init b)).bind (takeL (final b)) = some [] := by
  have h : runs b = true := by
    cases b
    · exact runs_keep
    · exact runs_swap
  unfold runs at h
  split at h
  · assumption
  · cases h

end Cert.Exchange
end
-- ==== Proof.Protocol.lean ====
/-
# `Protocol`: the tables of `Plan` as assertions

Every holding of `Plan` becomes an assertion about one device: a chunk of its result or of its `x` with given contents,
a slot of a staging buffer, a standing at a semaphore, the right to pay one. The schedule of the semaphores follows: a
payment hands over what `Plan.pay` lists.
-/
module

public import proofs.«01_k».proof.Proof.Plan
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Peer
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (b : Bool) (m : (ℓ : Loc nD τ sig) → Buf (Elt F) ℓ)

/-! ## The semaphores -/

/-- The barrier semaphore. -/
abbrev barS : Sem sig := (SemArray.scalar (sig.barrier 0 rfl) : Sems sig S_).sem

/-- Semaphore `q`: the barrier is number 0. -/
def csem (q : Fin 57) : SemLoc sig := if q.val = 0 then .reg barS else .dma q
/-- The number of a semaphore. -/
def qOf : SemLoc sig → Fin 57
  | .reg _ => 0
  | .dma q => q

theorem csem_zero : csem 0 = .reg barS := rfl
theorem csem_dma {q : Fin 57} (h : q.val ≠ 0) : csem q = .dma q := if_neg h
theorem qOf_csem (q : Fin 57) : qOf (csem q) = q := by
  unfold csem
  split
  · exact Fin.ext (by simp only [qOf]; omega)
  · rfl
theorem csem_inj {q q' : Fin 57} (h : csem q = csem q') : q = q' := by rw [← qOf_csem q, h, qOf_csem]

abbrev kcell (c : Dev nD) (q : Fin 57) : GSem nD τ sig := ((c : Thread nD τ), csem q)

/-- The units of a load of a chunk, and of a transfer of a cast chunk. -/
abbrev NL : ℕ := (iSlot 0).view.dmaCredit
abbrev NB : ℕ := (bSlot 0).view.dmaCredit
def amt (q : Fin 57) : ℕ := if q.val = 0 then 1 else if q.val < 3 then NL else NB

theorem NL_pos : 0 < NL := View.dmaCredit_pos _ (by decide)
theorem NB_pos : 0 < NB := View.dmaCredit_pos _ (by decide)
theorem amt_pos (q : Fin 57) : 0 < amt q := by
  unfold amt; split
  · exact Nat.one_pos
  · split
    · exact NL_pos
    · exact NB_pos

theorem credit_i (s : Fin 2) : (iSlot s).view.dmaCredit = NL := rfl
theorem credit_b (s : Fin 2) : (bSlot s).view.dmaCredit = NB := rfl
theorem credit_o (k : Chunk) : k.o.view.dmaCredit = NB := by rfl

/-! ## Contents -/

/-- Device `c`'s block of `x`. -/
def xa (c : Dev nD) : FVec F S1x4096x2048 .f32 := m ((c : Thread nD τ).loc main_arg0)
/-- The same cast: what its block of the result holds where the blocks stay, and its partners' where they are exchanged. -/
def bfx (c : Dev nD) : FVec F S1x4096x2048 .bf16 := truncf .bf16 (xa m c) bitsLt_bf16_f32

/-- A chunk of device `c`'s result. -/
def oPt (c : Dev nD) (k : Fin 32) (q : PosShare TreeShare) (f : FVec F S1x4096x2048 .bf16) : sProp 𝕄 :=
  ((keepChunk k).o.view.loc (c : Thread nD τ) ↦[(keepChunk k).o.view.set]{q} f)
/-- A chunk of device `c`'s `x`. -/
def xPt (c : Dev nD) (k : Fin 32) : sProp 𝕄 :=
  ((keepChunk k).x.view.loc (c : Thread nD τ) ↦[(keepChunk k).x.view.set]{fullShare} xa m c)
/-- A slot of the buffer of loaded chunks. -/
def iPt (c : Dev nD) (s : Fin 2) (g : FVec F S2x128x2048 .f32) : sProp 𝕄 :=
  ((iSlot s).view.loc (c : Thread nD τ) ↦[(iSlot s).view.set]{fullShare} g)
/-- A slot of the buffer of cast chunks. -/
def bPt (c : Dev nD) (s : Fin 2) (g : FVec F S2x128x2048 .bf16) : sProp 𝕄 :=
  ((bSlot s).view.loc (c : Thread nD τ) ↦[(bSlot s).view.set]{fullShare} g)

/-- The slot holds chunk `k` of `x`. -/
def Loaded (c : Dev nD) (s : Fin 2) (k : Fin 32) (g : FVec F S2x128x2048 .f32) : Prop :=
  (iSlot s).view.read (Elt F) g = (keepChunk k).x.view.read (Elt F) (xa m c)
/-- The slot holds chunk `k` of the cast `x`. -/
def Casted (c : Dev nD) (s : Fin 2) (k : Fin 32) (g : FVec F S2x128x2048 .bf16) : Prop :=
  (bSlot s).view.read (Elt F) g = (keepChunk k).o.view.read (Elt F) (bfx m c)

def halfOf (h : Bool) : PosShare TreeShare := if h then fullShare.right else fullShare.left

/-- A holding of device `c`. -/
def res (c : Dev nD) : Res → sProp 𝕄
  | .pos q r => iprop(atPos ER (kcell c q) r ∅ 0 ∗ reached ER (kcell c q) r)
  | .tok μ q r d => dutyTok ER (kcell (far μ c) q) r d
  | .cred q => cred (tallyAt (kcell c q) () (amt q))
  | .mine i => iprop(∃ f, oPt c (blk b c i) fullShare f)
  | .out p i => iprop(∃ f, oPt (far p.mask c) (blk b c i) fullShare f)
  | .got i h => oPt c (blk b c i) (halfOf h) (bfx m (far (org b i) c))
  | .x i => xPt m c (blk b c i)
  | .xin s none => iprop(∃ g, iPt c s g)
  | .xin s (some i) => iprop(∃ g, iPt c s g ∗ ⌜Loaded m c s (blk b c i) g⌝)
  | .xbf s none => iprop(∃ g, bPt c s g)
  | .xbf s (some i) => iprop(∃ g, bPt c s g ∗ ⌜Casted m c s (blk b c i) g⌝)

instance res_storable (c : Dev nD) (r : Res) : BI.Storable (upEmb : UEmb _ 𝕄) (res b m c r) := by
  rcases r with _ | _ | _ | _ | _ | _ | _ | ⟨_, _ | _⟩ | ⟨_, _ | _⟩ <;> unfold res <;> (try unfold oPt) <;> (try unfold xPt) <;> (try unfold iPt) <;> (try unfold bPt) <;> infer_instance

/-- Several holdings. -/
def semL (c : Dev nD) : List Res → sProp 𝕄
  | [] => iprop(emp)
  | r :: l => iprop(res b m c r ∗ semL c l)

instance semL_storable (c : Dev nD) (l : List Res) : BI.Storable (upEmb : UEmb _ 𝕄) (semL b m c l) := by
  induction l with
  | nil => unfold semL; infer_instance
  | cons r l ih => unfold semL; infer_instance

/-! ## The schedule -/

def Rd : Rounds.Schedule (GSem nD τ sig) Peer 𝕄 where
  duties g r := if g.1.2 = .tc ∧ g.2 = csem (qOf g.2) then (dutyL b (qOf g.2) r).toFinset else ∅
  unitless _ := False
  amount g _ _ := amt (qOf g.2)
  payload g r d := semL b m g.1.1 (pay b (qOf g.2) r d)
  amount_pos g _ _ _ := amt_pos _

instance Rd_storable (g : GSem nD τ sig) (r : ℕ) (d : Peer) : BI.Storable (upEmb : UEmb _ 𝕄) ((Rd (F := F) b m).payload g r d) := by
  show BI.Storable upEmb (semL b m g.1.1 (pay b (qOf g.2) r d)); infer_instance

section Facts
variable (c : Dev nD) (q : Fin 57)

theorem Rd_duties (r : ℕ) : (Rd (F := F) b m).duties (kcell c q) r = (dutyL b q r).toFinset := by
  dsimp only [Rd]; rw [qOf_csem]; exact if_pos ⟨rfl, rfl⟩
theorem Rd_amount (r : ℕ) (d : Peer) : (Rd (F := F) b m).amount (kcell c q) r d = amt q := by
  dsimp only [Rd]; rw [qOf_csem]
theorem Rd_payload (r : ℕ) (d : Peer) : (Rd (F := F) b m).payload (kcell c q) r d = semL b m c (pay b q r d) := by
  dsimp only [Rd]; rw [qOf_csem]

theorem dutyL_dma {r : ℕ} (hq : q.val ≠ 0) (hr : live b q r = true) : dutyL b q r = [.y] := by
  unfold dutyL; rw [if_pos (show r < rounds b q from Nat.le_of_ble_eq_true hr), if_neg hq]
theorem mem_duty_dma {r : ℕ} (hq : q.val ≠ 0) (hr : live b q r = true) : Peer.y ∈ (Rd (F := F) b m).duties (kcell c q) r := by
  rw [Rd_duties, dutyL_dma b q hq hr]; decide
theorem mem_duty_bar (p : Peer) : p ∈ (Rd (F := F) b m).duties (kcell c 0) 0 := by
  rw [Rd_duties]; cases b <;> cases p <;> decide
theorem expect_dma {r : ℕ} (hq : q.val ≠ 0) (hr : live b q r = true) : (Rd (F := F) b m).expect (kcell c q) r = amt q := by
  unfold Schedule.expect Schedule.amountOf
  rw [Rd_duties, dutyL_dma b q hq hr]
  show ∑ d ∈ {Peer.y}, _ = _
  rw [Finset.sum_singleton, Rd_amount]
theorem expect_bar : (Rd (F := F) b m).expect (kcell c 0) 0 = 3 := by
  unfold Schedule.expect Schedule.amountOf
  rw [Rd_duties, Finset.sum_congr rfl fun d _ => Rd_amount b m c 0 0 d, Finset.sum_const]
  cases b <;> decide
theorem rest_dma {r : ℕ} (hq : q.val ≠ 0) (hr : live b q r = true) :
    bigSep ((Rd (F := F) b m).duties (kcell c q) r \ ∅) (fun d => (Rd (F := F) b m).payload (kcell c q) r d) = semL b m c (pay b q r .y) := by
  rw [Finset.sdiff_empty, Rd_duties, dutyL_dma b q hq hr]
  show bigSep {Peer.y} _ = _
  rw [bigSep_singleton, Rd_payload]
theorem rest_bar :
    bigSep ((Rd (F := F) b m).duties (kcell c 0) 0 \ ∅) (fun d => (Rd (F := F) b m).payload (kcell c 0) 0 d)
      = iprop(semL b m c (pay b 0 0 .y) ∗ semL b m c (pay b 0 0 .x) ∗ semL b m c (pay b 0 0 .z)) := by
  rw [Finset.sdiff_empty, Rd_duties, show (dutyL b 0 0).toFinset = Finset.univ by cases b <;> decide,
    bigSep_univ_eq_bigSepL [Peer.y, .x, .z] (by decide) (by decide), bigSepL_cons_cons, bigSepL_cons_cons, bigSepL_singleton,
    Rd_payload, Rd_payload, Rd_payload]
  rfl
theorem duties_later (r : ℕ) (h : rounds b q ≤ r) : (Rd (F := F) b m).duties (kcell c q) r = ∅ := by
  rw [Rd_duties]; unfold dutyL; rw [if_neg (Nat.not_lt.mpr h)]; rfl

end Facts

/-! ## What a device owes; the levels -/

/-- The debts `ds` of device `c`. -/
def tally (c : Dev nD) : List Debt → CellTallies nD τ sig Unit
  | [] => 0
  | d :: ds => tally c ds + tallyAt (kcell (far d.1.mask c) d.2) () (amt d.2)

theorem tally_pos {c : Dev nD} {g : GSem nD τ sig} {u : Unit} : ∀ {ds : List Debt}, 0 < tally c ds g u → ∃ d ∈ ds, g = kcell (far d.1.mask c) d.2
  | [], h => absurd h (Nat.lt_irrefl 0)
  | d :: ds, h => by
    unfold tally at h
    rw [Pi.add_apply, Finsupp.add_apply, tallyAt_apply] at h
    by_cases h' : g = kcell (far d.1.mask c) d.2 ∧ u = ()
    · exact ⟨d, List.mem_cons_self, h'.1⟩
    · rw [if_neg h', Nat.add_zero] at h
      obtain ⟨e, he, hg⟩ := tally_pos h
      exact ⟨e, List.mem_cons_of_mem _ he, hg⟩

def L (g : GSem nD τ sig) : Finset Unit := if g.1.2 = .tc then {()} else ∅
/-- The semaphore `pi` is fetched on, below all of the exchange's. -/
abbrev fetchS : SemLoc sig := .dma (0 : Fin 57)
def lv (g : GSem nD τ sig) (_ : Unit) : ℕ := if g.2 = fetchS then 0 else level (qOf g.2)
theorem csem_ne_fetch (q : Fin 57) : csem q ≠ fetchS := by
  unfold csem
  split
  · intro h; cases h
  · rename_i h; intro h'; injection h' with h'; exact h (congrArg Fin.val h')
theorem lv_kcell (c : Dev nD) (q : Fin 57) : lv (kcell c q) () = level q := by
  dsimp only [lv]; rw [if_neg (csem_ne_fetch q), qOf_csem]

theorem L_of_ne (g : GSem nD τ sig) (h : g.1.2 ≠ .tc) : L g = ∅ := if_neg h
theorem L_tc (c : Dev nD) (sm : SemLoc sig) : L ((c : Thread nD τ), sm) = {()} := if_pos rfl

/-- A wait is allowed on a semaphore below all those still owed. -/
theorem mayWait (c : Dev nD) (q : Fin 57) (ds : List Debt) (h : below q ds = true) :
    (levAts L lv : sProp 𝕄) ⊢ MayWait (c : Thread nD τ) (csem q) () (tally c ds) :=
  MayOwe.of_cut (L := L) (lev := lv) (level q)
    (fun p hp => by rw [Finset.mem_singleton.mp hp, L_tc]; exact Finset.mem_singleton_self _)
    (fun g u hg => by obtain ⟨d, _, rfl⟩ := tally_pos hg; exact Finset.mem_singleton_self _)
    (fun p hp => by rw [Finset.mem_singleton.mp hp]; exact le_of_eq (lv_kcell c q))
    (fun g u hg => by
      obtain ⟨d, hd, rfl⟩ := tally_pos hg
      rw [show lv (kcell (far d.1.mask c) d.2) u = level d.2 from lv_kcell _ _]
      exact Nat.le_of_ble_eq_true (List.all_eq_true.mp h d hd))

/-- A wait for the fetch of `pi` is allowed whatever of the exchange is owed. -/
theorem mayWait_fetch (c : Dev nD) (ds : List Debt) (h : ds.all (fun d => Nat.blt 0 (level d.2)) = true) :
    (levAts L lv : sProp 𝕄) ⊢ MayWait (c : Thread nD τ) fetchS () (tally c ds) :=
  MayOwe.of_cut (L := L) (lev := lv) 0
    (fun p hp => by rw [Finset.mem_singleton.mp hp, L_tc]; exact Finset.mem_singleton_self _)
    (fun g u hg => by obtain ⟨d, _, rfl⟩ := tally_pos hg; exact Finset.mem_singleton_self _)
    (fun p hp => by rw [Finset.mem_singleton.mp hp]; dsimp only [lv]; rw [if_pos rfl])
    (fun g u hg => by
      obtain ⟨d, hd, rfl⟩ := tally_pos hg
      rw [show lv (kcell (far d.1.mask c) d.2) u = level d.2 from lv_kcell _ _]
      exact Nat.le_of_ble_eq_true (List.all_eq_true.mp h d hd))

/-- What device `c` still owes. -/
def owing (c : Dev nD) (ds : List Debt) : sProp 𝕄 := iprop(∃ W, owes (c : Thread nD τ) (tally c ds) W)

/-! ## What everyone knows -/

/-- Of one semaphore: its invariant, and that it is at its first round or later. -/
def known (K : Dev nD × Fin 57 → ℕ) (p : Dev nD × Fin 57) : sProp 𝕄 := iprop(cellInv ER (Rd b m) (K p) (kcell p.1 p.2) ∗ reached ER (kcell p.1 p.2) 0)
instance known_persistent (K : Dev nD × Fin 57 → ℕ) (p : Dev nD × Fin 57) : BI.Persistent (known b m K p) := by unfold known; infer_instance

/-- The semaphores' invariants at the names `K`, that each is at its first round or later, and the levels. -/
def ctx (K : Dev nD × Fin 57 → ℕ) : sProp 𝕄 :=
  iprop(bigSep Finset.univ (known b m K) ∗ levAts L lv)

instance ctx_persistent (K : Dev nD × Fin 57 → ℕ) : BI.Persistent (ctx b m K) := by unfold ctx; infer_instance

theorem known_elim (K : Dev nD × Fin 57 → ℕ) (p : Dev nD × Fin 57) : bigSep Finset.univ (known b m K) ⊢ known b m K p :=
  BI.bigSep_elim (Finset.mem_univ p)
theorem ctx_inv (K : Dev nD × Fin 57 → ℕ) (c : Dev nD) (q : Fin 57) : ctx b m K ⊢ cellInv ER (Rd b m) (K (c, q)) (kcell c q) := by
  unfold ctx
  iintro ⟨H, -⟩
  ihave H := (known_elim b m K (c, q)) $$ H
  unfold known
  icases H with ⟨H, -⟩
  iexact H
theorem ctx_reached (K : Dev nD × Fin 57 → ℕ) (c : Dev nD) (q : Fin 57) : ctx b m K ⊢ reached ER (kcell c q) 0 := by
  unfold ctx
  iintro ⟨H, -⟩
  ihave H := (known_elim b m K (c, q)) $$ H
  unfold known
  icases H with ⟨-, H⟩
  iexact H
theorem ctx_lev (K : Dev nD × Fin 57 → ℕ) : ctx b m K ⊢ levAts L lv := by
  unfold ctx
  iintro ⟨-, H⟩
  iexact H

end Cert.Exchange
end
-- ==== Proof.Steps.lean ====
/-
# `Steps`: every action is sound

One theorem for each kind of action: holding what `Act.pre` lists, with the debt of the action among those owed, a
device can run it, and holds what `Act.post` lists afterwards.
-/
module

public import proofs.«01_k».proof.Proof.Protocol
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (b : Bool) (m : (ℓ : Loc nD τ sig) → Buf (Elt F) ℓ)

abbrev 𝒱₀ : Variants := Variants.none

/-- Running `p` on device `c` is safe and leads to `Q`. -/
abbrev Runs (c : Dev nD) (p : P F) (Q : PUnit → sProp 𝕄) : sProp 𝕄 :=
  wp frame (wpE (defs₀ (F := F)) 𝒱₀ (c : Thread nD τ) none) Set.univ p Q

/-! ## Contents -/

theorem Loaded_write (c : Dev nD) (s : Fin 2) (k : Fin 32) (g : FVec F S2x128x2048 .f32) :
    Loaded m c s k ((iSlot s).view.write (Elt F) g ((keepChunk k).x.view.read (Elt F) (xa m c)) Finset.univ) :=
  View.read_write_univ _ _

/-- What a slot holds once the other slot's loaded chunk has been cast into it. -/
theorem Casted_write (c : Dev nD) (s : Fin 2) (k : Fin 32) (g : FVec F S2x128x2048 .f32) (g' : FVec F S2x128x2048 .bf16) (h : Loaded m c s k g) :
    Casted m c s k (((Memref.whole cc0_scratch1 : Memref sig .tc .vmem S2x128x2048 .bf16).access
        (Rect.unit (s := S2x128x2048) (slotOff s) S1x128x2048.size (slotFits s))).write (Elt F) g'
      (k0_pay1 (((Memref.whole cc0_scratch0 : Memref sig .tc .vmem S2x128x2048 .f32).access
        (Rect.unit (s := S2x128x2048) (slotOff s) S1x128x2048.size (slotFits s))).read (Elt F) g)) Finset.univ) := by
  unfold Casted
  have hr : ∀ f : FVec F S2x128x2048 .bf16, (bSlot s).view.read (Elt F) f
      = shapeCast S128x2048 (((Memref.whole cc0_scratch1 : Memref sig .tc .vmem S2x128x2048 .bf16).access
        (Rect.unit (s := S2x128x2048) (slotOff s) S1x128x2048.size (slotFits s))).read (Elt F) f) shapeCasts_S1x128x2048_S128x2048 := fun _ => rfl
  rw [hr, View.read_write_univ]
  unfold k0_pay1
  refine (shapeCast_shapeCast _ _ _).trans ?_
  show truncf .bf16 ((iSlot s).view.read (Elt F) g) bitsLt_bf16_f32 = _
  rw [show (iSlot s).view.read (Elt F) g = _ from h]
  rfl

theorem oPt_split (c : Dev nD) (k : Fin 32) (f : FVec F S1x4096x2048 .bf16) :
    oPt c k fullShare f ⊢ iprop(oPt c k (halfOf false) f ∗ oPt c k (halfOf true) f) :=
  (pointsTo_share (PosShare.mem_left_op_right fullShare)).1
theorem oPt_join (c : Dev nD) (k : Fin 32) (f : FVec F S1x4096x2048 .bf16) :
    iprop(oPt c k (halfOf false) f ∗ oPt c k (halfOf true) f) ⊢ oPt c k fullShare f :=
  (pointsTo_share (PosShare.mem_left_op_right fullShare)).2

/-- A chunk of the result overwritten by the same chunk of `g` holds it. -/
theorem oPt_write (c : Dev nD) (k : Fin 32) (f g : FVec F S1x4096x2048 .bf16) :
    oPt c k fullShare ((keepChunk k).o.view.write (Elt F) f ((keepChunk k).o.view.read (Elt F) g) Finset.univ) ⊢ oPt c k fullShare g := by
  unfold oPt
  rw [pointsTo_congr (g := g) fun i hi => ?_]
  rw [View.write_read_eq_piecewise, View.setOn_univ, Finset.piecewise_eq_of_mem _ _ _ hi]

/-- Both halves of chunk `i` as it is finally, from the whole. -/
theorem both_intro (c : Dev nD) (i : Fin 32) : oPt c (blk b c i) fullShare (bfx m (far (org b i) c)) ⊢ semL b m c (both i) := by
  iintro H
  ihave H := (oPt_split c (blk b c i) _) $$ H
  icases H with ⟨H, H'⟩
  simp only [semL, res]
  isplitl [H]; · iexact H
  isplitl [H']; · iexact H'
  iempintro

theorem iSet (s : Fin 2) : ((Memref.whole cc0_scratch0 : Memref sig .tc .vmem S2x128x2048 .f32).access
    (Rect.unit (s := S2x128x2048) (slotOff s) S1x128x2048.size (slotFits s))).set = (iSlot s).view.set := (View.set_reshape _ _).symm
theorem bSet (s : Fin 2) : ((Memref.whole cc0_scratch1 : Memref sig .tc .vmem S2x128x2048 .bf16).access
    (Rect.unit (s := S2x128x2048) (slotOff s) S1x128x2048.size (slotFits s))).set = (bSlot s).view.set := (View.set_reshape _ _).symm

/-! ## The schedule at a DMA semaphore -/

section Dma
variable (c : Dev nD) {q : Fin 57} {r : ℕ} (hq : q.val ≠ 0) (hr : live b q r = true)
include hq

theorem kcell_dma : kcell c q = ((c : Thread nD τ), SemLoc.dma q) := by unfold kcell; rw [csem_dma hq]
include hr in
theorem dma_duty : Peer.y ∈ (Rd (F := F) b m).duties ((c : Thread nD τ), SemLoc.dma q) r := by
  rw [← kcell_dma c hq]; exact mem_duty_dma b m c q hq hr
theorem dma_amount : (Rd (F := F) b m).amount ((c : Thread nD τ), SemLoc.dma q) r .y = amt q := by
  rw [← kcell_dma c hq]; exact Rd_amount b m c q r .y
theorem dma_payload : (Rd (F := F) b m).payload ((c : Thread nD τ), SemLoc.dma q) r .y = semL b m c (pay b q r .y) := by
  rw [← kcell_dma c hq]; exact Rd_payload b m c q r .y
end Dma

theorem amt_load (s : Fin 2) : amt (loadQ s) = NL := by
  have : s.val < 2 := s.isLt
  unfold amt; rw [if_neg (by simp [loadQ]), if_pos (by simp only [loadQ]; omega)]
theorem amt_wide {q : Fin 57} (h : wide q = true) : amt q = NB := by
  have := Nat.le_of_ble_eq_true h
  unfold amt; rw [if_neg (by omega), if_neg (by omega)]
theorem wide_ne {q : Fin 57} (h : wide q = true) : q.val ≠ 0 := by
  have := Nat.le_of_ble_eq_true h; omega
theorem wide_out (s : Fin 2) : wide (outQ s) = true := by
  revert s; decide
theorem loadQ_ne (s : Fin 2) : (loadQ s).val ≠ 0 := by simp [loadQ]

/-! ## Waits -/

set_option maxRecDepth 20000 in
theorem ctx_may (K : Dev nD × Fin 57 → ℕ) (c : Dev nD) {q : Fin 57} {ds : List Debt} (hb : below q ds = true) :
    ctx b m K ⊢ MayWait (c : Thread nD τ) (csem q) () (tally c ds) :=
  (ctx_lev b m K).trans (mayWait c q ds hb)

theorem semL_append (c : Dev nD) (l k : List Res) : semL b m c (l ++ k) ⊣⊢ iprop(semL b m c l ∗ semL b m c k) := by
  induction l with
  | nil => exact (emp_sep (PROP := sProp 𝕄)).symm
  | cons a l ih => exact (sep_congr_right ih).trans (sep_assoc (PROP := sProp 𝕄)).symm

/-- A wait on a DMA semaphore. -/
theorem wait_sound (K : Dev nD × Fin 57 → ℕ) (c : Dev nD) {q : Fin 57} {r : ℕ} {ds : List Debt} (hq : q.val ≠ 0)
    (hr : live b q r = true) (hb : below q ds = true) (w : TpuEff nD τ sig (Elt F) Λ₀ (c : Thread nD τ).2 PUnit)
    (hw : ∀ k : PUnit → sProp 𝕄, wpE (defs₀ (F := F)) 𝒱₀ (c : Thread nD τ) none Set.univ w k = waitSpec (c : Thread nD τ) Set.univ (.dma q) (amt q) k)
    (Q : PUnit → sProp 𝕄) :
    ctx b m K ⊢ iprop(semL b m c (waitPre q r) -∗ owing c ds -∗ (semL b m c (waitPost b q r) -∗ owing c ds -∗ Q ⟨⟩) -∗ Runs c (Prog.lift w) Q) := by
  iintro #Hc Hpre HO HQ
  simp only [semL, res, waitPre, waitPost]
  icases Hpre with ⟨⟨Hpos, -⟩, Hcr, -⟩
  unfold owing
  icases HO with ⟨%W, HO⟩
  ihave #Hinv := (ctx_inv b m K c q) $$ Hc
  ihave Hmay := (ctx_may b m K c hb) $$ Hc
  have hc : kcell c q = ((c : Thread nD τ), SemLoc.dma q) := kcell_dma c hq
  have hs : csem q = SemLoc.dma q := csem_dma hq
  have he : 0 + amt q = (Rd (F := F) b m).expect (kcell c q) r := by rw [Nat.zero_add, expect_dma b m c q hq hr]
  have hrest := rest_dma b m c q hq hr
  rw [hc] at he hrest
  rw [hc, hs]
  iapply (Rounds.wp_wait_rest_token 𝒱₀ ER (Rd b m) (c : Thread nD τ) none (κ := K (c, q)) hw (Set.mem_univ _) () (O := tally c ds) (W := W)
    (R := r) (m := 0) (T := ∅) he) $$ [Hcr HO Hpos Hmay]
  · isplitl []; · iexact Hinv
    isplitl [Hcr]; · iexact Hcr
    isplitl [HO]; · iexact HO
    isplitl [Hmay]; · iexact Hmay
    iexact Hpos
  rw [hrest]
  iintro ⟨HO, Hpos, Hr, Hpay⟩
  rw [wp_ret]
  imodintro
  iapply HQ $$ [Hpos Hr Hpay] [HO]
  · isplitl [Hpos Hr]
    · isplitl [Hpos]; · iexact Hpos
      iexact Hr
    iexact Hpay
  iexists _
  iexact HO

/-- The wait for the three signals. -/
theorem waitBar_sound (K : Dev nD × Fin 57 → ℕ) (c : Dev nD) {ds : List Debt} (hb : below 0 ds = true) (Q : PUnit → sProp 𝕄) :
    ctx b m K ⊢ iprop(semL b m c (Act.pre b .waitBar) -∗ owing c ds -∗ (semL b m c (.pos 0 1 :: (pay b 0 0 .y ++ (pay b 0 0 .x ++ pay b 0 0 .z))) -∗ owing c ds -∗ Q ⟨⟩)
      -∗ Runs c waitBarP Q) := by
  iintro #Hc Hpre HO HQ
  simp only [Act.pre, semL, res]
  icases Hpre with ⟨⟨Hpos, -⟩, Hc1, Hc2, Hc3, -⟩
  unfold owing
  icases HO with ⟨%W, HO⟩
  ihave #Hinv := (ctx_inv b m K c 0) $$ Hc
  ihave Hmay := (ctx_may b m K c hb) $$ Hc
  have hcr : tallyAt (kcell c 0) () 3 = (tallyAt (kcell c 0) () (amt 0) + (tallyAt (kcell c 0) () (amt 0) + tallyAt (kcell c 0) () (amt 0)) : CellTallies nD τ sig Unit) := by
    rw [tallyAt_add, tallyAt_add]; rfl
  ihave Hcr : cred (tallyAt (kcell c 0) () 3) $$ [Hc1 Hc2 Hc3]
  · rw [hcr]
    iapply (cred_add _ _).2
    isplitl [Hc1]; · iexact Hc1
    iapply (cred_add _ _).2
    isplitl [Hc2]; · iexact Hc2
    iexact Hc3
  have he : 0 + 3 = (Rd (F := F) b m).expect (kcell c 0) 0 := by rw [Nat.zero_add, expect_bar b m c]
  have hrest : bigSep ((Rd (F := F) b m).duties ((c : Thread nD τ), SemLoc.reg barS) 0 \ ∅)
      (fun d => (Rd (F := F) b m).payload ((c : Thread nD τ), SemLoc.reg barS) 0 d)
      = iprop(semL b m c (pay b 0 0 .y) ∗ semL b m c (pay b 0 0 .x) ∗ semL b m c (pay b 0 0 .z)) := rest_bar b m c
  unfold waitBarP semWaitWord
  iapply (Rounds.wp_wait_rest_token 𝒱₀ ER (Rd b m) (c : Thread nD τ) none (κ := K (c, 0))
    (wpE_semWait_eq 𝒱₀ (c : Thread nD τ) none Set.univ) (Set.mem_univ _) () (O := tally c ds) (W := W)
    (R := 0) (m := 0) (T := ∅) he) $$ [Hcr HO Hpos Hmay]
  · isplitl []; · iexact Hinv
    isplitl [Hcr]; · iexact Hcr
    isplitl [HO]; · iexact HO
    isplitl [Hmay]; · iexact Hmay
    iexact Hpos
  rw [hrest]
  iintro ⟨HO, Hpos, Hr, Hpay⟩
  rw [wp_ret]
  imodintro
  iapply HQ $$ [Hpos Hr Hpay] [HO]
  · isplitl [Hpos Hr]
    · isplitl [Hpos]; · iexact Hpos
      iexact Hr
    iapply (semL_append b m c _ _).2
    icases Hpay with ⟨Hy, Hx, Hz⟩
    isplitl [Hy]; · iexact Hy
    iapply (semL_append b m c _ _).2
    isplitl [Hx]; · iexact Hx
    iexact Hz
  iexists _
  iexact HO

/-! ## Transfers -/

/-- What a signal hands over: where the blocks are exchanged, the rows of the device's result that the neighbour writes. -/
theorem signal_pay (c : Dev nD) (p : Peer) :
    semL b m c (if b then (outs p).map fun i => .mine (turnIdx p i) else []) ⊢ semL b m (far p.mask c) (pay b 0 0 p) := by
  cases b
  · exact .rfl
  · show semL true m c ((outs p).map fun i => .mine (turnIdx p i)) ⊢ semL true m (far p.mask c) ((outs p).map (.out p))
    generalize outs p = l
    induction l with
    | nil => exact .rfl
    | cons i l ih =>
      refine BI.sep_mono ?_ ih
      show iprop(∃ f, oPt c (blk true c (turnIdx p i)) fullShare f) ⊢ iprop(∃ f, oPt (far p.mask (far p.mask c)) (blk true (far p.mask c) i) fullShare f)
      rw [far_far, ← blk_far p (far p.mask c) i, far_far]

theorem signal_sound (K : Dev nD × Fin 57 → ℕ) (c : Dev nD) (p : Peer) (ds : List Debt) (Q : PUnit → sProp 𝕄) :
    ctx b m K ⊢ iprop(semL b m c (Act.pre b (.signal p)) -∗ owing c ((p, 0) :: ds) -∗ (semL b m c [] -∗ owing c ds -∗ Q ⟨⟩)
      -∗ Runs c (signalP (far p.mask c)) Q) := by
  iintro #Hc Hpre HO HQ
  simp only [Act.pre, semL, res]
  icases Hpre with ⟨Htok, Hpay⟩
  ihave Hpay := (signal_pay b m c p) $$ Hpay
  unfold owing
  icases HO with ⟨%W, HO⟩
  ihave #Hinv := (ctx_inv b m K (far p.mask c) 0) $$ Hc
  ihave #Hre := (ctx_reached b m K (far p.mask c) 0) $$ Hc
  have hpay : (Rd (F := F) b m).payload ((far p.mask c : Thread nD τ), SemLoc.reg barS) 0 p = semL b m (far p.mask c) (pay b 0 0 p) :=
    Rd_payload b m (far p.mask c) 0 0 p
  unfold signalP semSignalWord
  iapply (Rounds.wp_signal 𝒱₀ ER (Rd b m) (c : Thread nD τ) none (dst := (far p.mask c : Thread nD τ)) (κ := K (far p.mask c, 0))
    (mem_duty_bar b m (far p.mask c) p) (Rd_amount b m (far p.mask c) 0 0 p) () (tally c ds) (O₀ := tally c ((p, 0) :: ds)) rfl (W := W)) $$ [Htok Hpay HO]
  · rw [hpay]
    isplitl []; · iexact Hinv
    isplitl [HO]; · iexact HO
    isplitl [Htok]; · iexact Htok
    isplitl [Hpay]; · iexact Hpay
    iexact Hre
  iintro HO
  rw [wp_ret]
  imodintro
  iapply HQ $$ [] [HO]
  · iempintro
  iexists _
  iexact HO

/-- What a load hands back. -/
theorem load_pay (c : Dev nD) (s : Fin 2) (i : Fin 32) (g : FVec F S2x128x2048 .f32) :
    iprop(iPt c s ((iSlot s).view.write (Elt F) g ((keepChunk (blk b c i)).x.view.read (Elt F) (xa m c)) Finset.univ) ∗ xPt m c (blk b c i))
      ⊢ semL b m c [.xin s (some i), .x i] := by
  simp only [semL, res]
  iintro ⟨Hi, Hx⟩
  isplitl [Hi]
  · iexists _
    isplitl [Hi]; · iexact Hi
    ipureintro; exact Loaded_write m c s (blk b c i) g
  isplitl [Hx]; · iexact Hx
  iempintro

/-- What a store into the own result hands back. -/
theorem store_pay (c : Dev nD) (s : Fin 2) (i : Fin 32) (g : FVec F S2x128x2048 .bf16) (f : FVec F S1x4096x2048 .bf16) (ho : org b i = 0) :
    iprop(oPt c (blk b c i) fullShare ((keepChunk (blk b c i)).o.view.write (Elt F) f ((keepChunk (blk b c i)).o.view.read (Elt F) (bfx m c)) Finset.univ) ∗ bPt c s g)
      ⊢ semL b m c (.xbf s none :: both i) := by
  have h := both_intro b m c i
  rw [ho, far_zero] at h
  show _ ⊢ iprop((∃ g, bPt c s g) ∗ semL b m c (both i))
  iintro ⟨Ho, Hb⟩
  ihave Ho := (oPt_write c (blk b c i) f (bfx m c)) $$ Ho
  ihave Ho := h $$ Ho
  isplitl [Hb]
  · iexists g; iexact Hb
  iexact Ho

/-- What the sender of a chunk gets back. -/
theorem sent_pay (c : Dev nD) (s : Fin 2) (g : FVec F S2x128x2048 .bf16) : bPt c s g ⊢ semL b m c [.xbf s none] := by
  simp only [semL, res]
  iintro Hb
  isplitl [Hb]
  · iexists g; iexact Hb
  iempintro

/-- What the `y`-neighbour gets. -/
theorem send_pay (c : Dev nD) (i : Fin 32) (f : FVec F S1x4096x2048 .bf16) (ho : org true i = 4) :
    oPt (far 4 c) (blk true c i) fullShare ((keepChunk (blk true c i)).o.view.write (Elt F) f ((keepChunk (blk true c i)).o.view.read (Elt F) (bfx m c)) Finset.univ)
      ⊢ semL true m (far 4 c) (both i) := by
  have h := both_intro true m (far 4 c) i
  have hk : blk true (far 4 c) i = blk true c i := blk_far .y c i
  rw [ho, far_far, hk] at h
  exact (oPt_write (far 4 c) (blk true c i) f (bfx m c)).trans h

/-- What the neighbour a chunk is forwarded to gets. -/
theorem fwd_pay (c : Dev nD) (p : Peer) (i : Fin 32) (f : FVec F S1x4096x2048 .bf16) (ho : org true (turnIdx p i) = org true i ^^^ p.mask) :
    oPt (far p.mask c) (blk true c i) fullShare ((keepChunk (blk true c i)).o.view.write (Elt F) f
        ((keepChunk (blk true c i)).o.view.read (Elt F) (bfx m (far (org true i) c))) Finset.univ)
      ⊢ semL true m (far p.mask c) (both (turnIdx p i)) := by
  have h := both_intro true m (far p.mask c) (turnIdx p i)
  rw [ho, ← far_comm (org true i) p.mask, far_far, blk_far] at h
  exact (oPt_write (far p.mask c) (blk true c i) f (bfx m (far (org true i) c))).trans h

theorem load_sound (K : Dev nD × Fin 57 → ℕ) (c : Dev nD) (s : Fin 2) (i : Fin 32) (r : ℕ) (hr : live b (loadQ s) r = true)
    (hp : pay b (loadQ s) r .y = [.xin s (some i), .x i]) (ds : List Debt) (Q : PUnit → sProp 𝕄) :
    ctx b m K ⊢ iprop(semL b m c (Act.pre b (.load s i r)) -∗ owing c ds -∗ (semL b m c (waitPre (loadQ s) r) -∗ owing c ds -∗ Q ⟨⟩)
      -∗ Runs c (loadP s (keepChunk (blk b c i)) (loadQ s)) Q) := by
  iintro #Hc Hpre HO HQ
  simp only [Act.pre, waitPre, semL, res]
  rw [far_zero]
  icases Hpre with ⟨Htok, ⟨Hpos, #Hre⟩, ⟨%g, Hin⟩, Hx, -⟩
  ihave #Hinv := (ctx_inv b m K c (loadQ s)) $$ Hc
  have hq := loadQ_ne s
  have hpay := dma_payload b m c (r := r) hq
  rw [hp] at hpay
  rw [kcell_dma c hq]
  unfold loadP
  unfold iPt xPt
  iapply (Rounds.wp_copy_pointsTo 𝒱₀ ER (Rd b m) (c : Thread nD τ) none (κ := K (c, loadQ s)) (src := (keepChunk (blk b c i)).x) (dst := iSlot s)
    (q := fullShare) (fs := xa m c) (fd := g) (dma_duty b m c hq hr) () (amt (loadQ s)) (amt_load s).symm (dma_amount b m c hq) (by
      rw [hpay]; exact load_pay b m c s i g)) $$ [Htok Hin Hx]
  · isplitl []; · iexact Hinv
    isplitl [Hx]; · iexact Hx
    isplitl [Hin]; · iexact Hin
    isplitl [Htok]; · iexact Htok
    iexact Hre
  iintro Hcr
  rw [wp_ret]
  imodintro
  iapply HQ $$ [Hpos Hcr] [HO]
  · isplitl [Hpos]
    · isplitl [Hpos]; · iexact Hpos
      iexact Hre
    isplitl [Hcr]; · iexact Hcr
    iempintro
  iexact HO

theorem store_sound (K : Dev nD × Fin 57 → ℕ) (c : Dev nD) (s : Fin 2) (i : Fin 32) (r : ℕ) (hr : live b (outQ s) r = true)
    (hp : pay b (outQ s) r .y = .xbf s none :: both i) (ho : org b i = 0) (ds : List Debt) (Q : PUnit → sProp 𝕄) :
    ctx b m K ⊢ iprop(semL b m c (Act.pre b (.store s i r)) -∗ owing c ds -∗ (semL b m c (waitPre (outQ s) r) -∗ owing c ds -∗ Q ⟨⟩)
      -∗ Runs c (storeP s (keepChunk (blk b c i)) (outQ s)) Q) := by
  iintro #Hc Hpre HO HQ
  simp only [Act.pre, waitPre, semL, res]
  rw [far_zero]
  icases Hpre with ⟨Htok, ⟨Hpos, #Hre⟩, ⟨%g, Hbf, %hg⟩, ⟨%f, Hm⟩, -⟩
  ihave #Hinv := (ctx_inv b m K c (outQ s)) $$ Hc
  have hw := wide_out s
  have hq := wide_ne hw
  have hpay := dma_payload b m c (r := r) hq
  rw [hp] at hpay
  rw [kcell_dma c hq]
  unfold storeP
  unfold bPt oPt
  iapply (Rounds.wp_copy_pointsTo 𝒱₀ ER (Rd b m) (c : Thread nD τ) none (κ := K (c, outQ s)) (src := bSlot s) (dst := (keepChunk (blk b c i)).o)
    (q := fullShare) (fs := g) (fd := f) (dma_duty b m c hq hr) () (amt (outQ s)) (amt_wide hw).symm (dma_amount b m c hq) (by
      rw [hpay, show (bSlot s).view.read (Elt F) g = _ from hg]; exact store_pay b m c s i g f ho)) $$ [Htok Hbf Hm]
  · isplitl []; · iexact Hinv
    isplitl [Hbf]; · iexact Hbf
    isplitl [Hm]; · iexact Hm
    isplitl [Htok]; · iexact Htok
    iexact Hre
  iintro Hcr
  rw [wp_ret]
  imodintro
  iapply HQ $$ [Hpos Hcr] [HO]
  · isplitl [Hpos]
    · isplitl [Hpos]; · iexact Hpos
      iexact Hre
    isplitl [Hcr]; · iexact Hcr
    iempintro
  iexact HO

theorem ySend_sound (K : Dev nD × Fin 57 → ℕ) (c : Dev nD) (s : Fin 2) (i : Fin 32) (r : ℕ) (q : Fin 57) (hb : b = true) (hr : live b (outQ s) r = true)
    (hp : pay b (outQ s) r .y = [.xbf s none]) (hr' : live b q 0 = true) (hp' : pay b q 0 .y = both i) (ho : org b i = 4) (hw' : wide q = true)
    (ds : List Debt) (Q : PUnit → sProp 𝕄) :
    ctx b m K ⊢ iprop(semL b m c (Act.pre b (.ySend s i r q)) -∗ owing c ((.y, q) :: ds) -∗ (semL b m c (waitPre (outQ s) r) -∗ owing c ds -∗ Q ⟨⟩)
      -∗ Runs c (ySendP (far 4 c) s (keepChunk (blk b c i)) (outQ s) q) Q) := by
  subst hb
  iintro #Hc Hpre HO HQ
  simp only [Act.pre, waitPre, semL, res]
  rw [far_zero]
  icases Hpre with ⟨Htok, ⟨Hpos, #Hre⟩, Htok', ⟨%g, Hbf, %hg⟩, ⟨%f, Hm⟩, -⟩
  unfold owing
  icases HO with ⟨%W, HO⟩
  ihave #Hinv := (ctx_inv true m K c (outQ s)) $$ Hc
  ihave #Hinv' := (ctx_inv true m K (far 4 c) q) $$ Hc
  ihave #Hre' := (ctx_reached true m K (far 4 c) q) $$ Hc
  have hw := wide_out s
  have hq := wide_ne hw
  have hq' := wide_ne hw'
  have hpay := dma_payload true m c (r := r) hq
  have hpay' := dma_payload true m (far 4 c) (r := 0) hq'
  rw [hp] at hpay
  rw [hp'] at hpay'
  have hO : tally c ((.y, q) :: ds) = tally c ds + tallyAt ((far 4 c : Thread nD τ), SemLoc.dma q) () (amt (outQ s)) := by
    rw [amt_wide hw, ← amt_wide hw', ← kcell_dma (far 4 c) hq']; rfl
  rw [kcell_dma c hq, kcell_dma (far 4 c) hq']
  unfold ySendP
  unfold bPt oPt
  iapply (Rounds.wp_send_pointsTo 𝒱₀ ER (Rd true m) (c : Thread nD τ) none (c' := (far 4 c : Thread nD τ)) (κ₁ := K (c, outQ s)) (κ₂ := K (far 4 c, q))
    (src := bSlot s) (dst := (keepChunk (blk true c i)).o) (q := fullShare) (fs := g) (fd := f)
    (dma_duty true m c hq hr) (dma_duty true m (far 4 c) hq' hr') () () (amt (outQ s)) (amt_wide hw).symm
    (dma_amount true m c hq) ((dma_amount true m (far 4 c) hq').trans ((amt_wide hw').trans (amt_wide hw).symm)) (tally c ds) hO (W := W) (by
      rw [hpay]; exact sent_pay true m c s g) (by
      rw [hpay', show (bSlot s).view.read (Elt F) g = _ from hg]; exact send_pay m c i f ho)) $$ [Htok Htok' Hbf Hm HO]
  · isplitl []; · iexact Hinv
    isplitl []; · iexact Hinv'
    isplitl [Hbf]; · iexact Hbf
    isplitl [Hm]; · iexact Hm
    isplitl [HO]; · iexact HO
    isplitl [Htok]; · iexact Htok
    isplitl []; · iexact Hre
    isplitl [Htok']; · iexact Htok'
    iexact Hre'
  iintro ⟨Hcr, HO⟩
  rw [wp_ret]
  imodintro
  iapply HQ $$ [Hpos Hcr] [HO]
  · isplitl [Hpos]
    · isplitl [Hpos]; · iexact Hpos
      iexact Hre
    isplitl [Hcr]; · iexact Hcr
    iempintro
  iexists _
  iexact HO

theorem fwd_sound (K : Dev nD × Fin 57 → ℕ) (c : Dev nD) (p : Peer) (i : Fin 32) (q q' : Fin 57) (hb : b = true) (hr : live b q 0 = true)
    (hp : pay b q 0 .y = [.got i (half p i)]) (hr' : live b q' 0 = true) (hp' : pay b q' 0 .y = both (turnIdx p i))
    (ho : org b (turnIdx p i) = org b i ^^^ p.mask) (hw : wide q = true) (hw' : wide q' = true) (ds : List Debt) (Q : PUnit → sProp 𝕄) :
    ctx b m K ⊢ iprop(semL b m c (Act.pre b (.fwd p i q q')) -∗ owing c ((p, q') :: ds) -∗ (semL b m c (waitPre q 0) -∗ owing c ds -∗ Q ⟨⟩)
      -∗ Runs c (fwdP (far p.mask c) (keepChunk (blk b c i)) q q') Q) := by
  subst hb
  iintro #Hc Hpre HO HQ
  simp only [Act.pre, waitPre, semL, res]
  rw [far_zero]
  icases Hpre with ⟨Htok, ⟨Hpos, #Hre⟩, Htok', Hg, ⟨%f, Hm⟩, -⟩
  unfold owing
  icases HO with ⟨%W, HO⟩
  ihave #Hinv := (ctx_inv true m K c q) $$ Hc
  ihave #Hinv' := (ctx_inv true m K (far p.mask c) q') $$ Hc
  ihave #Hre' := (ctx_reached true m K (far p.mask c) q') $$ Hc
  have hq := wide_ne hw
  have hq' := wide_ne hw'
  have hpay := dma_payload true m c (r := 0) hq
  have hpay' := dma_payload true m (far p.mask c) (r := 0) hq'
  rw [hp] at hpay
  rw [hp'] at hpay'
  have hO : tally c ((p, q') :: ds) = tally c ds + tallyAt ((far p.mask c : Thread nD τ), SemLoc.dma q') () (amt q) := by
    rw [amt_wide hw, ← amt_wide hw', ← kcell_dma (far p.mask c) hq']; rfl
  rw [kcell_dma c hq, kcell_dma (far p.mask c) hq']
  unfold fwdP
  unfold oPt
  iapply (Rounds.wp_send_pointsTo 𝒱₀ ER (Rd true m) (c : Thread nD τ) none (c' := (far p.mask c : Thread nD τ)) (κ₁ := K (c, q)) (κ₂ := K (far p.mask c, q'))
    (src := (keepChunk (blk true c i)).o) (dst := (keepChunk (blk true c i)).o) (q := halfOf (half p i)) (fs := bfx m (far (org true i) c)) (fd := f)
    (dma_duty true m c hq hr) (dma_duty true m (far p.mask c) hq' hr') () () (amt q) (amt_wide hw).symm
    (dma_amount true m c hq) ((dma_amount true m (far p.mask c) hq').trans ((amt_wide hw').trans (amt_wide hw).symm)) (tally c ds) hO (W := W) (by
      rw [hpay]; exact (sep_emp (PROP := sProp 𝕄)).2) (by
      rw [hpay']; exact fwd_pay m c p i f ho)) $$ [Htok Htok' Hg Hm HO]
  · isplitl []; · iexact Hinv
    isplitl []; · iexact Hinv'
    isplitl [Hg]; · iexact Hg
    isplitl [Hm]; · iexact Hm
    isplitl [HO]; · iexact HO
    isplitl [Htok]; · iexact Htok
    isplitl []; · iexact Hre
    isplitl [Htok']; · iexact Htok'
    iexact Hre'
  iintro ⟨Hcr, HO⟩
  rw [wp_ret]
  imodintro
  iapply HQ $$ [Hpos Hcr] [HO]
  · isplitl [Hpos]
    · isplitl [Hpos]; · iexact Hpos
      iexact Hre
    isplitl [Hcr]; · iexact Hcr
    iempintro
  iexists _
  iexact HO

/-! ## The cast -/

theorem cast_sound (c : Dev nD) (s : Fin 2) (i : Fin 32) (Q : PUnit → sProp 𝕄) :
    semL b m c (Act.pre b (.cast s i)) ⊢ iprop((semL b m c [.xin s none, .xbf s (some i)] -∗ Q ⟨⟩) -∗ Runs c (castP s) Q) := by
  simp only [Act.pre, semL, res]
  iintro ⟨⟨%g, Hin, %hg⟩, ⟨%g', Hbf⟩, -⟩ HQ
  unfold iPt bPt
  unfold castP
  iapply (wp_load_rect 𝒱₀ (c : Thread nD τ) none Set.univ (S := (iSlot s).view.set) (iSet s).subset) $$ Hin
  iintro Hin
  iapply (wp_load_rect 𝒱₀ (c : Thread nD τ) none Set.univ (S := (bSlot s).view.set) (bSet s).subset) $$ Hbf
  iintro Hbf
  iapply (wp_store 𝒱₀ (c : Thread nD τ) none Set.univ (S := (bSlot s).view.set) (bSet s).subset) $$ Hbf
  iintro Hbf
  rw [wp_ret]
  imodintro
  iapply HQ
  isplitl [Hin]
  · iexists g; iexact Hin
  isplitl [Hbf]
  · iexists _
    isplitl [Hbf]; · iexact Hbf
    ipureintro; exact Casted_write m c s (blk b c i) g g' hg
  iempintro

/-! ## All actions -/

/-- Every action is sound. -/
theorem act_sound (K : Dev nD × Fin 57 → ℕ) (c ny : Dev nD) (hny : b = true → ny = far 4 c) (a : Act) (ds : List Debt) (ha : a.ok b ds = true)
    (Q : PUnit → sProp 𝕄) :
    ctx b m K ⊢ iprop(semL b m c (a.pre b) -∗ owing c (a.debt ++ ds) -∗ (semL b m c (a.post b) -∗ owing c ds -∗ Q ⟨⟩) -∗ Runs c (a.prog b c ny) Q) := by
  cases a <;> simp only [Act.ok, Bool.and_eq_true] at ha <;> simp only [Act.prog, chunk_eq]
  case signal p => rw [sigDev_eq]; exact signal_sound b m K c p ds Q
  case waitBar => exact waitBar_sound b m K c ha Q
  case load s i r => exact load_sound b m K c s i r ha.1 (eq_of_sameL ha.2) ds Q
  case waitLoad s i r =>
    exact wait_sound b m K c (loadQ_ne s) ha.1 ha.2 _ (by rw [amt_load]; exact wpE_waitDma2_eq 𝒱₀ (c : Thread nD τ) none Set.univ) Q
  case cast s i =>
    iintro - Hpre HO HQ
    iapply (cast_sound b m c s i Q) $$ Hpre
    iintro Hpost
    iapply HQ $$ [Hpost] [HO]
    · iexact Hpost
    iexact HO
  case store s i r => exact store_sound b m K c s i r ha.1 (eq_of_sameL ha.2.1) (eq_of_sameFin ha.2.2) ds Q
  case waitStore s i r =>
    exact wait_sound b m K c (wide_ne (wide_out s)) ha.1 ha.2 _ (by rw [amt_wide (wide_out s)]; exact wpE_waitDma2_eq 𝒱₀ (c : Thread nD τ) none Set.univ) Q
  case ySend s i r q =>
    obtain ⟨h1, h2, h3, h4, h5, h6, h7⟩ := ha
    rw [hny h7]
    exact ySend_sound b m K c s i r q h7 h1 (eq_of_sameL h2) h3 (eq_of_sameL h4) (eq_of_sameFin h5) h6 ds Q
  case waitSent s i r =>
    exact wait_sound b m K c (wide_ne (wide_out s)) ha.1 ha.2 _ (by rw [amt_wide (wide_out s)]; exact wpE_waitDma2_eq 𝒱₀ (c : Thread nD τ) none Set.univ) Q
  case waitY s i q =>
    exact wait_sound b m K c (wide_ne ha.2.2) ha.1 ha.2.1 _ (by rw [amt_wide ha.2.2]; exact wpE_waitDma2_eq 𝒱₀ (c : Thread nD τ) none Set.univ) Q
  case fwd p i q q' =>
    obtain ⟨h1, h2, h3, h4, h5, h6, h7, h8⟩ := ha
    rw [toDev_eq c ny (hny h8)]
    exact fwd_sound b m K c p i q q' h8 h1 (eq_of_sameL h2) h3 (eq_of_sameL h4) (eq_of_sameFin h5) h6 h7 ds Q
  case waitFwd i q =>
    exact wait_sound b m K c (wide_ne ha.2.2) ha.1 ha.2.1 _ (by rw [amt_wide ha.2.2]; exact wpE_waitDma2_eq 𝒱₀ (c : Thread nD τ) none Set.univ) Q

/-! ## Runs of actions -/

theorem run_nil (c ny : Dev nD) : run (F := F) b c ny [] = .ret ⟨⟩ := rfl
theorem run_cons (c ny : Dev nD) (a : Act) (l : List Act) : run (F := F) b c ny (a :: l) = Act.prog b c ny a >>= fun _ => run b c ny l := rfl

theorem Runs_ret (c : Dev nD) (Q : PUnit → sProp 𝕄) : Runs c (.ret ⟨⟩) Q = iprop(|={Set.univ}[frame]=> Q ⟨⟩) := wp_ret _ _ _ _ _
theorem Runs_bind (c : Dev nD) (p p' : P F) (Q : PUnit → sProp 𝕄) : Runs c (p >>= fun _ => p') Q = Runs c p (fun _ => Runs c p' Q) := wp_bind _ _ _ _ _ _

theorem take1_sound (c : Dev nD) (r : Res) : ∀ (l k : List Res), take1 r l = some k → semL b m c l ⊢ iprop(res b m c r ∗ semL b m c k)
  | [], _, h => by cases h
  | a :: l, k, h => by
    unfold take1 at h
    split at h
    · rename_i hs
      cases h
      rw [← Res.eq_of_same hs]
      exact .rfl
    · cases hl : take1 r l with
      | none => rw [hl] at h; cases h
      | some k' =>
        rw [hl] at h
        cases h
        have ih := take1_sound c r l k' hl
        show iprop(res b m c a ∗ semL b m c l) ⊢ iprop(res b m c r ∗ res b m c a ∗ semL b m c k')
        iintro ⟨Ha, Hl⟩
        ihave Hl := ih $$ Hl
        icases Hl with ⟨Hr, Hk⟩
        isplitl [Hr]; · iexact Hr
        isplitl [Ha]; · iexact Ha
        iexact Hk

theorem takeL_sound (c : Dev nD) : ∀ (rs l k : List Res), takeL rs l = some k → semL b m c l ⊢ iprop(semL b m c rs ∗ semL b m c k)
  | [], l, k, h => by
    cases h
    exact (emp_sep (PROP := sProp 𝕄)).2
  | r :: rs, l, k, h => by
    unfold takeL at h
    obtain ⟨l', h1, h2⟩ := Option.bind_eq_some_iff.mp h
    have i1 := take1_sound b m c r l l' h1
    have i2 := takeL_sound c rs l' k h2
    exact (i1.trans (sep_mono_right i2)).trans (sep_assoc (PROP := sProp 𝕄)).2

/-- A list of actions that `exec` runs is sound. -/
theorem run_sound (K : Dev nD × Fin 57 → ℕ) (c ny : Dev nD) (hny : b = true → ny = far 4 c) (Q : PUnit → sProp 𝕄) :
    ∀ (l : List Act) (st st' : List Res), exec b l st = some st' →
      (ctx b m K ⊢ iprop(semL b m c st -∗ owing c (debts l) -∗ (semL b m c st' -∗ owing c [] -∗ Q ⟨⟩) -∗ Runs c (run b c ny l) Q))
  | [], st, st', h => by
    have h' : st = st' := Option.some.inj h
    rw [run_nil, h']
    rw [Runs_ret]
    iintro - Hst HO HQ
    imodintro
    iapply HQ $$ Hst [HO]
    iexact HO
  | a :: l, st, st', h => by
    unfold exec at h
    split at h
    · rename_i ha
      obtain ⟨r, h1, h2⟩ := Option.bind_eq_some_iff.mp h
      have i1 := takeL_sound b m c _ _ _ h1
      have i2 := run_sound K c ny hny Q l _ _ h2
      have i3 := act_sound b m K c ny hny a (debts l) ha (fun _ => Runs c (run b c ny l) Q)
      rw [run_cons, Runs_bind]
      iintro #Hc Hst HO HQ
      ihave Hst := i1 $$ Hst
      icases Hst with ⟨Hpre, Hr⟩
      iapply i3 $$ Hc Hpre [HO]
      · iexact HO
      iintro Hpost HO
      iapply i2 $$ Hc [Hpost Hr] HO HQ
      iapply (semL_append b m c _ _).2
      isplitl [Hpost]; · iexact Hpost
      iexact Hr
    · cases h

/-- A branch's whole body, from what a device holds at first to what it holds at the end. -/
theorem acts_sound (K : Dev nD × Fin 57 → ℕ) (c ny : Dev nD) (hny : b = true → ny = far 4 c) (Q : PUnit → sProp 𝕄) :
    ctx b m K ⊢ iprop(semL b m c (init b) -∗ owing c (debts (allActs b)) -∗ (semL b m c (final b) -∗ owing c [] -∗ Q ⟨⟩) -∗ Runs c (run b c ny (allActs b)) Q) := by
  obtain ⟨st, h1, h2⟩ := Option.bind_eq_some_iff.mp (exec_all b)
  iintro #Hc Hst HO HQ
  iapply (run_sound b m K c ny hny Q _ _ _ h1) $$ Hc Hst HO
  iintro Hst HO
  ihave Hst := (takeL_sound b m c _ _ _ h2) $$ Hst
  icases Hst with ⟨Hst, -⟩
  iapply HQ $$ Hst HO

end Cert.Exchange
end
-- ==== Proof.Words.lean ====
/-
# `Words`: what the body computes from its word of `pi`

Device `c` reads the entry of `pi` at its own `y`. Whether that entry is the other value of `y` or its own decides which
branch it takes and, in the swap, to whom it sends.
-/
module

public import proofs.«01_k».proof.Proof.Plan

@[expose] public section

namespace Cert.Exchange

open Cert.KernelIdeal Cert.KernelIdeal.Gen
open Idealize.ShloMosaic Idealize.ShloMosaic.TcCoe

/-- The entry of `pi` at `e`: the other one of the two places, or the same. -/
def piWord (b : Bool) (e : ℕ) : BitVec 32 := BitVec.ofNat 32 (if b then 1 - e else e)

/-- The word device `c` reads. -/
abbrev myWord (b : Bool) (c : Dev nD) : BitVec 32 := piWord b (k0_off1 c 0)

theorem chk_ok : ∀ (b : Bool) (c : Dev nD), k0_chk1 c (myWord b c) := by decide +kernel
theorem stays_swap : ∀ c : Dev nD, stays c (myWord true c) ≠ 1#1 := by decide +kernel
theorem cond_swap : ∀ c : Dev nD, k0_cond2 c (myWord true c) = 1#1 := by decide +kernel
theorem stays_keep : ∀ c : Dev nD, stays c (myWord false c) = 1#1 := by decide +kernel
theorem cond_keep : ∀ c : Dev nD, k0_cond2 c (myWord false c) ≠ 1#1 := by decide +kernel
theorem dev4_val : ∀ c : Dev nD, k0_dev4 c (myWord true c) = (far 4 c).val := by decide +kernel
theorem dev4_eq (c : Dev nD) (h : k0_dev4 c (myWord true c) < nD) : (⟨k0_dev4 c (myWord true c), h⟩ : Dev nD) = far 4 c := Fin.ext (dev4_val c)

end Cert.Exchange
end
-- ==== Proof.Body.lean ====
/-
# `Body`: a device's whole run of the kernel's body

Between whole buffers: a device's `x`, its result and its two staging buffers are the chunks and slots of the protocol
put together, and its semaphores close at zero.
-/
module

public import proofs.«01_k».proof.Proof.Steps
public import proofs.«01_k».proof.Proof.Words
public import Idealize.ShloMosaic.Lib.Ring
public import Idealize.ShloMosaic.Lib.Pipeline.ValueKit.Geometry

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)

variable {F : FTy → Type} [FloatOps F]

local notation "𝕄" => MT nD τ sig Unit (Elt F) ℕ UU ℕ

variable (b : Bool) (m : (ℓ : Loc nD τ sig) → Buf (Elt F) ℓ)

/-! ## Lists of holdings as families -/

theorem semL_map {I : Type} [DecidableEq I] (c : Dev nD) (f : I → Res) :
    ∀ l : List I, l.Nodup → semL b m c (l.map f) = bigSep l.toFinset fun i => res b m c (f i)
  | [], _ => rfl
  | a :: l, h => by
    obtain ⟨ha, hl⟩ := List.nodup_cons.mp h
    rw [List.toFinset_cons, bigSep_insert (by rwa [List.mem_toFinset])]
    show iprop(res b m c (f a) ∗ semL b m c (l.map f)) = _
    rw [semL_map c f l hl]; rfl

theorem semL_fin {n : ℕ} (c : Dev nD) (f : Fin n → Res) :
    semL b m c ((List.finRange n).map f) = bigSep Finset.univ fun i => res b m c (f i) := by
  rw [semL_map b m c f _ (List.nodup_finRange n), List.toFinset_finRange]

/-! ## The chunks of a block, the slots of a staging buffer -/

theorem blk_blk : ∀ (b : Bool) (c : Dev nD) (i : Fin 32), blk b c (blk b c i) = i := by decide +kernel
def blkE (c : Dev nD) : Fin 32 ≃ Fin 32 := ⟨blk b c, blk b c, blk_blk b c, blk_blk b c⟩

/-- The block of 128 rows an element is in. -/
def rowBlk (e : S1x4096x2048.Idx) : Fin 32 := ⟨(e (1 : Fin 3)).val / 128, by have h : (e (1 : Fin 3)).val < 4096 := (e (1 : Fin 3)).isLt; omega⟩

theorem mem_block (k : Fin 32) (e : S1x4096x2048.Idx) :
    e ∈ (Rect.unit (s := S1x4096x2048) ![0, 128 * k.val, 0] S1x128x2048.size (keepFits k)).set ↔ rowBlk e = k := by
  rw [Rect.mem_set_unit]
  have h0 : (e (0 : Fin 3)).val < 1 := (e (0 : Fin 3)).isLt
  have h1 : (e (1 : Fin 3)).val < 4096 := (e (1 : Fin 3)).isLt
  have h2 : (e (2 : Fin 3)).val < 2048 := (e (2 : Fin 3)).isLt
  constructor
  · intro h
    have h' : 128 * k.val ≤ (e (1 : Fin 3)).val ∧ (e (1 : Fin 3)).val < 128 * k.val + 128 := h (1 : Fin 3)
    exact Fin.ext (by show (e (1 : Fin 3)).val / 128 = k.val; omega)
  · intro h
    have h' : (e (1 : Fin 3)).val / 128 = k.val := congrArg Fin.val h
    intro a
    match a with
    | ⟨0, _⟩ => exact ⟨Nat.zero_le _, by show (e (0 : Fin 3)).val < 0 + 1; omega⟩
    | ⟨1, _⟩ => exact ⟨by show 128 * k.val ≤ (e (1 : Fin 3)).val; omega, by show (e (1 : Fin 3)).val < 128 * k.val + 128; omega⟩
    | ⟨2, _⟩ => exact ⟨Nat.zero_le _, by show (e (2 : Fin 3)).val < 0 + 2048; omega⟩

theorem mem_o (k : Fin 32) (e : S1x4096x2048.Idx) : e ∈ (keepChunk k).o.view.set ↔ rowBlk e = k := by
  have h : (keepChunk k).o.view.set = _ := (View.set_reshape _ _).trans (View.set_slice_whole _ _)
  rw [h]; exact mem_block k e
theorem mem_x (k : Fin 32) (e : S1x4096x2048.Idx) : e ∈ (keepChunk k).x.view.set ↔ rowBlk e = k := by
  have h : (keepChunk k).x.view.set = _ := (View.set_reshape _ _).trans (View.set_slice_whole _ _)
  rw [h]; exact mem_block k e

theorem mem_slot (s : Fin 2) (e : S2x128x2048.Idx) :
    e ∈ (Rect.unit (s := S2x128x2048) (slotOff s) S1x128x2048.size (slotFits s)).set ↔ (e (0 : Fin 3)).val = s.val := by
  rw [Rect.mem_set_unit]
  have h1 : (e (1 : Fin 3)).val < 128 := (e (1 : Fin 3)).isLt
  have h2 : (e (2 : Fin 3)).val < 2048 := (e (2 : Fin 3)).isLt
  constructor
  · intro h
    have h' : s.val ≤ (e (0 : Fin 3)).val ∧ (e (0 : Fin 3)).val < s.val + 1 := h (0 : Fin 3)
    omega
  · intro h a
    match a with
    | ⟨0, _⟩ => exact ⟨by show s.val ≤ (e (0 : Fin 3)).val; omega, by show (e (0 : Fin 3)).val < s.val + 1; omega⟩
    | ⟨1, _⟩ => exact ⟨Nat.zero_le _, by show (e (1 : Fin 3)).val < 0 + 128; omega⟩
    | ⟨2, _⟩ => exact ⟨Nat.zero_le _, by show (e (2 : Fin 3)).val < 0 + 2048; omega⟩
theorem mem_i (s : Fin 2) (e : S2x128x2048.Idx) : e ∈ (iSlot s).view.set ↔ (e (0 : Fin 3)).val = s.val := by
  have h : (iSlot s).view.set = _ := (View.set_reshape _ _).trans (View.set_slice_whole _ _)
  rw [h]; exact mem_slot s e
theorem mem_b (s : Fin 2) (e : S2x128x2048.Idx) : e ∈ (bSlot s).view.set ↔ (e (0 : Fin 3)).val = s.val := by
  have h : (bSlot s).view.set = _ := (View.set_reshape _ _).trans (View.set_slice_whole _ _)
  rw [h]; exact mem_slot s e

theorem slot_cover (e : S2x128x2048.Idx) : ∃ s : Fin 2, (e (0 : Fin 3)).val = s.val := ⟨⟨(e (0 : Fin 3)).val, (e (0 : Fin 3)).isLt⟩, rfl⟩

abbrev oLoc (c : Dev nD) : Loc nD τ sig := (c : Thread nD τ).loc main_v1
abbrev xLoc (c : Dev nD) : Loc nD τ sig := (c : Thread nD τ).loc main_arg0
abbrev piLoc (c : Dev nD) : Loc nD τ sig := (c : Thread nD τ).loc main_arg1
abbrev iLoc (c : Dev nD) : Loc nD τ sig := (c : Thread nD τ).loc cc0_scratch0
abbrev bLoc (c : Dev nD) : Loc nD τ sig := (c : Thread nD τ).loc cc0_scratch1

/-- The elements of a chunk of the result. -/
abbrev oSet (c : Dev nD) (k : Fin 32) : Finset (Idx (oLoc c)) := (keepChunk k).o.view.set
theorem o_disj (c : Dev nD) (k l : Fin 32) (h : k ≠ l) : Disjoint (oSet c k) (oSet c l) :=
  Finset.disjoint_left.mpr fun e h1 h2 => h (((mem_o k e).mp h1).symm.trans ((mem_o l e).mp h2))
theorem o_cover (c : Dev nD) : Finset.univ.biUnion (oSet c) = Finset.univ :=
  Finset.eq_univ_iff_forall.mpr fun e => Finset.mem_biUnion.mpr ⟨rowBlk e, Finset.mem_univ _, (mem_o _ e).mpr rfl⟩
/-- The elements of a chunk of `x`. -/
abbrev xSet (c : Dev nD) (k : Fin 32) : Finset (Idx (xLoc c)) := (keepChunk k).x.view.set
theorem x_disj (c : Dev nD) (k l : Fin 32) (h : k ≠ l) : Disjoint (xSet c k) (xSet c l) :=
  Finset.disjoint_left.mpr fun e h1 h2 => h (((mem_x k e).mp h1).symm.trans ((mem_x l e).mp h2))
theorem x_cover (c : Dev nD) : Finset.univ.biUnion (xSet c) = Finset.univ :=
  Finset.eq_univ_iff_forall.mpr fun e => Finset.mem_biUnion.mpr ⟨rowBlk e, Finset.mem_univ _, (mem_x _ e).mpr rfl⟩
/-- The elements of a slot. -/
abbrev iSet' (c : Dev nD) (s : Fin 2) : Finset (Idx (iLoc c)) := (iSlot s).view.set
theorem i_disj (c : Dev nD) (s t : Fin 2) (h : s ≠ t) : Disjoint (iSet' c s) (iSet' c t) :=
  Finset.disjoint_left.mpr fun e h1 h2 => h (Fin.ext (((mem_i s e).mp h1).symm.trans ((mem_i t e).mp h2)))
theorem i_cover (c : Dev nD) : Finset.univ.biUnion (iSet' c) = Finset.univ :=
  Finset.eq_univ_iff_forall.mpr fun e => by
    obtain ⟨s, hs⟩ := slot_cover e
    exact Finset.mem_biUnion.mpr ⟨s, Finset.mem_univ _, (mem_i s e).mpr hs⟩
abbrev bSet' (c : Dev nD) (s : Fin 2) : Finset (Idx (bLoc c)) := (bSlot s).view.set
theorem b_disj (c : Dev nD) (s t : Fin 2) (h : s ≠ t) : Disjoint (bSet' c s) (bSet' c t) :=
  Finset.disjoint_left.mpr fun e h1 h2 => h (Fin.ext (((mem_b s e).mp h1).symm.trans ((mem_b t e).mp h2)))
theorem b_cover (c : Dev nD) : Finset.univ.biUnion (bSet' c) = Finset.univ :=
  Finset.eq_univ_iff_forall.mpr fun e => by
    obtain ⟨s, hs⟩ := slot_cover e
    exact Finset.mem_biUnion.mpr ⟨s, Finset.mem_univ _, (mem_b s e).mpr hs⟩

/-- A device's result whole is its chunks. -/
theorem o_all (c : Dev nD) (f : Buf (Elt F) (oLoc c)) :
    ((oLoc c) ↦{fullShare} f : sProp 𝕄) = bigSep Finset.univ fun k => oPt c k fullShare f :=
  pointsTo_blocks (oSet c) (o_disj c) (o_cover c) f
/-- Its `x` likewise. -/
theorem x_all (c : Dev nD) : ((xLoc c) ↦{fullShare} m (xLoc c) : sProp 𝕄) = bigSep Finset.univ fun k => xPt m c k :=
  pointsTo_blocks (xSet c) (x_disj c) (x_cover c) _

theorem fin2 (Φ : Fin 2 → sProp 𝕄) : bigSep Finset.univ Φ = iprop(Φ 0 ∗ Φ 1) := bigSep_univ_eq_bigSepL [0, 1] (by decide) (by decide) Φ

abbrev slots : List Res := [.xin 0 none, .xin 1 none, .xbf 0 none, .xbf 1 none]

/-- The staging buffers whole are their slots, -/
theorem slots_split (c : Dev nD) (g : Buf (Elt F) (iLoc c)) (g' : Buf (Elt F) (bLoc c)) :
    iprop(((iLoc c) ↦{fullShare} g) ∗ ((bLoc c) ↦{fullShare} g')) ⊢ semL b m c slots := by
  rw [pointsTo_blocks (iSet' c) (i_disj c) (i_cover c) g,
    pointsTo_blocks (bSet' c) (b_disj c) (b_cover c) g', fin2, fin2]
  simp only [semL, res]
  unfold iPt bPt
  iintro ⟨⟨H0, H1⟩, H2, H3⟩
  isplitl [H0]; · iexists g; iexact H0
  isplitl [H1]; · iexists g; iexact H1
  isplitl [H2]; · iexists g'; iexact H2
  isplitl [H3]; · iexists g'; iexact H3
  iempintro
/-- and the slots with any contents make up the buffers. -/
theorem slots_join (c : Dev nD) :
    semL b m c slots ⊢ iprop((∃ g : Buf (Elt F) (iLoc c), (iLoc c) ↦{fullShare} g) ∗ (∃ g : Buf (Elt F) (bLoc c), (bLoc c) ↦{fullShare} g)) := by
  have hi := pointsTo_blocks_join_exists (Ix := Unit) (Name := ℕ) (U := UU) (Lvl := ℕ) (iSet' c) (i_disj c) (i_cover c) (q := fullShare) (m (iLoc c))
  have hb := pointsTo_blocks_join_exists (Ix := Unit) (Name := ℕ) (U := UU) (Lvl := ℕ) (bSet' c) (b_disj c) (b_cover c) (q := fullShare) (m (bLoc c))
  rw [fin2] at hi hb
  simp only [semL, res]
  iintro ⟨H0, H1, H2, H3, -⟩
  isplitl [H0 H1]
  · iapply hi
    isplitl [H0]; · iexact H0
    iexact H1
  · iapply hb
    isplitl [H2]; · iexact H2
    iexact H3

/-! ## What the result finally holds -/

/-- A device's result at the end of branch `b`: on every block of rows the cast `x` of the device it came from. -/
def outv (c : Dev nD) : FVec F S1x4096x2048 .bf16 := fun e => bfx m (far (org b (blk b c (rowBlk e))) c) e

theorem oPt_out (c : Dev nD) (i : Fin 32) : oPt c (blk b c i) fullShare (bfx m (far (org b i) c)) = oPt c (blk b c i) fullShare (outv b m c) := by
  unfold oPt
  refine pointsTo_congr fun e he => ?_
  have h := (mem_o _ e).mp he
  show _ = bfx m (far (org b (blk b c (rowBlk e))) c) e
  rw [h, blk_blk]

theorem mine_intro (c : Dev nD) (f : FVec F S1x4096x2048 .bf16) : ((oLoc c) ↦{fullShare} f : sProp 𝕄) ⊢ semL b m c (chunks.map .mine) := by
  unfold chunks
  rw [semL_fin, o_all, bigSep_univ_equiv (blkE b c)]
  exact bigSep_mono fun i _ => show oPt c (blk b c i) fullShare f ⊢ iprop(∃ f, oPt c (blk b c i) fullShare f) from exists_intro (Φ := fun f => oPt c (blk b c i) fullShare f) f
theorem x_eq (c : Dev nD) : ((xLoc c) ↦{fullShare} m (xLoc c) : sProp 𝕄) = semL b m c (chunks.map .x) := by
  unfold chunks
  rw [semL_fin, x_all, bigSep_univ_equiv (blkE b c)]; rfl

theorem both_join (c : Dev nD) : ∀ l : List (Fin 32), l.Nodup →
    (semL b m c (l.flatMap both) ⊢ bigSep l.toFinset fun i => oPt c (blk b c i) fullShare (outv b m c))
  | [], _ => .rfl
  | i :: l, h => by
    obtain ⟨hi, hl⟩ := List.nodup_cons.mp h
    have ih := both_join c l hl
    rw [List.toFinset_cons, bigSep_insert (by rwa [List.mem_toFinset]), ← oPt_out]
    show semL b m c (both i ++ l.flatMap both) ⊢ iprop(_ ∗ _)
    iintro H
    ihave H := (semL_append b m c (both i) (l.flatMap both)).1 $$ H
    simp only [semL, res]
    icases H with ⟨⟨H1, H2, -⟩, Hl⟩
    isplitl [H1 H2]
    · iapply oPt_join
      isplitl [H1]; · iexact H1
      iexact H2
    · iapply ih; iexact Hl

theorem out_join (c : Dev nD) : semL b m c (chunks.flatMap both) ⊢ ((oLoc c) ↦{fullShare} outv b m c : sProp 𝕄) := by
  unfold chunks
  refine (both_join b m c _ (List.nodup_finRange 32)).trans ?_
  rw [List.toFinset_finRange, o_all, bigSep_univ_equiv (blkE b c) fun k => oPt c k fullShare (outv b m c)]
  exact .rfl

/-! ## The semaphores at the end -/

/-- What is known of everything serves every member of a family. -/
theorem bigSep_using {I : Type} [DecidableEq I] {S : Finset I} {R : sProp 𝕄} [BI.Persistent R] {Φ Ψ : I → sProp 𝕄} (h : ∀ i, iprop(R ∗ Φ i) ⊢ Ψ i) :
    iprop(R ∗ bigSep S Φ) ⊢ bigSep S Ψ := by
  refine (sep_mono_left (BI.bigSep_of_persistent S R)).trans ?_
  rw [← bigSep_sep']
  exact bigSep_mono fun i _ => h i

theorem close_one (K : Dev nD × Fin 57 → ℕ) (c : Dev nD) (q : Fin 57) :
    iprop(ctx b m K ∗ res b m c (.pos q (rounds b q))) ⊢ |={Set.univ}=> semVal (kcell c q) 0 := by
  simp only [res]
  iintro ⟨#Hc, Ha, -⟩
  ihave #Hi := (ctx_inv b m K c q) $$ Hc
  iapply (Rounds.cell_close ER (Rd b m) (Set.mem_univ (K (c, q))) (fun h => h) (R := rounds b q) fun r h => duties_later b m c q r h)
  isplitr; · iexact Hi
  iexact Ha

theorem close_all (K : Dev nD × Fin 57 → ℕ) (c : Dev nD) :
    iprop(ctx b m K ∗ semL b m c (cells.map fun q => .pos q (rounds b q))) ⊢ |={Set.univ}=> bigSep Finset.univ fun q => semVal (kcell c q) 0 := by
  unfold cells
  rw [semL_fin]
  exact (bigSep_using fun q => close_one b m K c q).trans (bigSep_fupd _ _)

/-- What a device holds after the body: its semaphores at zero, its `x` as it was, its result, and the staging buffers. -/
def after (c : Dev nD) : sProp 𝕄 :=
  iprop((bigSep Finset.univ fun q => semVal (kcell c q) 0) ∗ ((xLoc c) ↦{fullShare} m (xLoc c)) ∗ ((oLoc c) ↦{fullShare} outv b m c)
    ∗ (∃ g : Buf (Elt F) (iLoc c), (iLoc c) ↦{fullShare} g) ∗ (∃ g : Buf (Elt F) (bLoc c), (bLoc c) ↦{fullShare} g))

theorem final_after (K : Dev nD × Fin 57 → ℕ) (c : Dev nD) : ctx b m K ⊢ iprop(semL b m c (final b) -∗ |={Set.univ}=> after b m c) := by
  iintro #Hc Hst
  unfold final
  ihave Hst := (semL_append b m c _ _).1 $$ Hst
  icases Hst with ⟨Hpos, Hst⟩
  ihave Hst := (semL_append b m c _ _).1 $$ Hst
  icases Hst with ⟨Hout, Hst⟩
  ihave Hst := (semL_append b m c _ _).1 $$ Hst
  icases Hst with ⟨Hx, Hsl⟩
  ihave Hout := (out_join b m c) $$ Hout
  ihave Hx := (Entails.of_eq (x_eq b m c).symm) $$ Hx
  ihave Hsl := (slots_join b m c) $$ Hsl
  icases Hsl with ⟨Hi, Hb⟩
  imod (close_all b m K c) $$ [Hpos] with Hz
  · isplitr; · iexact Hc
    iexact Hpos
  imodintro
  unfold after
  isplitl [Hz]; · iexact Hz
  isplitl [Hx]; · iexact Hx
  isplitl [Hout]; · iexact Hout
  isplitl [Hi]; · iexact Hi
  iexact Hb

/-! ## The body -/

/-- `pi` is as branch `b` has it. -/
def Order (c : Dev nD) (f : IVec S2 32) : Prop := ∀ e : S2.Idx, f e = piWord b (e (0 : Fin 1)).val

abbrev stgLoc (c : Dev nD) : Loc nD τ sig := (c : Thread nD τ).loc cc0_stg0_0

/-- The body as the launch calls it. -/
abbrev theBody : P F :=
  cc0_body (Memref.whole main_arg0) (Memref.isWhole_whole _) (Memref.whole cc0_stg0_0) (Memref.isWhole_whole _) (Memref.whole main_v1) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9 cc0_scratch10 cc0_scratch11 cc0_scratch12

/-- The word read is the entry of `pi` at the device's own place. -/
theorem read_pi (c : Dev nD) (f : IVec S2 32) (h : Order b c f) (x : S1.Idx) :
    ((Memref.whole cc0_stg0_0 : Memref sig .tc .smem S2 .i32).access (Rect.unit (s := S2) (k0_off1 c) S1.size (Facts₀.k0_off1_inb c))).read (Elt F) f x = myWord b c := by
  refine (h _).trans (congrArg (piWord b) ?_)
  have hx : (x (0 : Fin 1)).val < 1 := (x (0 : Fin 1)).isLt
  show k0_off1 c 0 + 1 * (x (0 : Fin 1)).val = k0_off1 c 0
  omega

theorem rest_sound (K : Dev nD × Fin 57 → ℕ) (c : Dev nD) (v : BitVec 32) (hv : v = myWord b c) (hw : k0_chk1 c v) (Q : PUnit → sProp 𝕄) :
    ctx b m K ⊢ iprop(semL b m c (init b) -∗ owing c (debts (allActs b)) -∗ (after b m c -∗ owing c [] -∗ Q ⟨⟩) -∗ Runs c (rest c v hw) Q) := by
  have hrun : ∃ ny, (b = true → ny = far 4 c) ∧ rest (F := F) c v hw = run b c ny (allActs b) := by
    subst hv
    cases b
    · exact ⟨c, fun h => (by cases h), rest_keep c _ hw (stays_keep c) (cond_keep c)⟩
    · exact ⟨_, fun _ => dev4_eq c _, rest_swap c _ hw (stays_swap c) (cond_swap c)⟩
  obtain ⟨ny, hny, hr⟩ := hrun
  rw [hr]
  iintro #Hc Hst HO HQ
  iapply (wp_fupd)
  iapply (acts_sound b m K c ny hny) $$ Hc Hst HO
  iintro Hst HO
  imod (final_after b m K c) $$ Hc Hst with Haf
  imodintro
  iapply HQ $$ Haf HO

/-- The body, from what the device holds at first and `pi` in its staging buffer. -/
theorem body_sound (K : Dev nD × Fin 57 → ℕ) (c : Dev nD) (f : IVec S2 32) (h : Order b c f) (Q : PUnit → sProp 𝕄) :
    ctx b m K ⊢ iprop(semL b m c (init b) -∗ owing c (debts (allActs b)) -∗ ((stgLoc c) ↦{fullShare} f)
      -∗ (after b m c -∗ owing c [] -∗ ((stgLoc c) ↦{fullShare} f) -∗ Q ⟨⟩) -∗ Runs c (theBody (F := F)) Q) := by
  iintro #Hc Hst HO Hf HQ
  unfold theBody Runs
  rw [body_eq, wp_deviceId]
  iapply (wp_smemLoadElt (Val := Elt F) (Ix := Unit) (Name := ℕ) (U := UU) (Lvl := ℕ) 𝒱₀ (c : Thread nD τ) none Set.univ (m := (Memref.whole cc0_stg0_0 : Memref sig .tc .smem S2 .i32))
    (r := Rect.unit (s := S2) (k0_off1 c) S1.size (Facts₀.k0_off1_inb c)) (S := Finset.univ) (q := fullShare) (f := f) (Finset.subset_univ _)) $$ [Hf]
  · iexact Hf
  iintro Hf
  iapply (wp_assume 𝒱₀ (c : Thread nD τ) none Set.univ (by rw [read_pi b c f h]; exact chk_ok b c))
  iapply (rest_sound b m K c _ (read_pi b c f h _) _) $$ Hc Hst HO
  iintro Haf HO
  iapply HQ $$ Haf HO Hf

end Cert.Exchange
end
-- ==== Proof.Launch.lean ====
/-
# `Launch`: the kernel run on every device

At the launch every device gets its standings, the rights to the payments it makes, one credit for each payment its
neighbours owe it, its blocks of `x` and of the result, and the staging buffers; from these the body runs, and every
execution of the kernel ends with all semaphores at zero and the result as `outv` has it.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (b : Bool) (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- What a device owes at launch. -/
abbrev O₀ (c : Dev nD) : CellTallies nD τ sig Unit := tally c (debts (allActs b))

/-- Before the body. -/
def Φ₀ (c : Dev nD) : sProp 𝕄 := iprop(∃ K, ctx b m K ∗ semL b m c (init b))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => m (piLoc c)
  Φ t := match t with
    | ⟨0, _⟩ => Φ₀ b m c
    | ⟨_ + 1, _⟩ => after b m c
  q _ := fullShare
  owed t := match t with
    | ⟨0, _⟩ => O₀ b c
    | ⟨_ + 1, _⟩ => 0

/-! ## The body obligation -/

theorem fetch_pi : (cfg0.win (0 : Fin 1)).fetch t0_0 = true := by rfl

theorem owns_stage (c : Dev nD) (X : cc0_stg0_0.ty.Contents (Elt F)) :
    (owns (Ix := Unit) (Name := ℕ) (U := UU) (Lvl := ℕ) (c : Thread nD τ) (Memref.whole cc0_stg0_0) fullShare X : sProp 𝕄)
      = iprop(∃ f : Buf (Elt F) (stgLoc c), ⌜f = X⌝ ∗ ((stgLoc c) ↦{fullShare} f)) := by
  unfold owns; simp only [Memref.view_whole, View.read_whole, View.set_whole]

abbrev staged (c : Dev nD) (X : cc0_stg0_0.ty.Contents (Elt F)) : sProp 𝕄 :=
  iprop(∃ f : Buf (Elt F) (stgLoc c), ⌜f = X⌝ ∗ ((stgLoc c) ↦{fullShare} f))

theorem before_pi (c : Dev nD) (d : cc0_stg0_0.ty.Contents (Elt F)) : (dats b m ρ 0 c).before (0 : Fin 1) t0_0 d = m (piLoc c) := by
  unfold Dat.before; rw [if_pos fetch_pi]
  funext e
  show m (piLoc c) _ = m (piLoc c) e
  refine congrArg (m (piLoc c)) (funext fun a => Fin.ext ?_)
  match a with
  | ⟨0, _⟩ =>
    show 0 * 2 + 1 * (e (0 : Fin 1)).val = (e (0 : Fin 1)).val
    omega

theorem body_run (c : Dev nD) (hp : Order b c (m (piLoc c))) :
    iprop(Φ₀ b m c ∗ (dats b m ρ 0 c).owesAt () t0_0.castSucc ∗ (∃ d, staged c ((dats b m ρ 0 c).before (0 : Fin 1) t0_0 d)))
      ⊢ Runs c (theBody (F := F)) fun _ => iprop(after b m c ∗ (dats b m ρ 0 c).owesAt () t0_0.succ ∗ staged c (m (piLoc c))) := by
  unfold Φ₀ Dat.owesAt Pipeline.owesWithin
  rw [show (dats b m ρ 0 c).owed t0_0.castSucc = tally c (debts (allActs b)) from rfl, show (dats b m ρ 0 c).owed t0_0.succ = tally c [] from rfl]
  iintro ⟨⟨%K, #Hc, Hst⟩, ⟨%W, %hW, HO⟩, ⟨%d, %f, %hf, Hf⟩⟩
  have hf' : f = m (piLoc c) := hf.trans (before_pi b m ρ c d)
  subst hf'
  iapply (body_sound b m K c (m (piLoc c)) hp) $$ Hc Hst [HO] Hf
  · unfold owing; iexists W; iexact HO
  iintro Haf HO Hf
  isplitl [Haf]; · iexact Haf
  isplitl [HO]
  · unfold owing
    icases HO with ⟨%W', HO⟩
    iexists W'
    isplitr; · ipureintro; exact fun _ _ => Or.inl trivial
    iexact HO
  iexists _; isplitr; · (ipureintro; rfl)
  iexact Hf

theorem body_obligation (hp : ∀ c, Order b c (m (piLoc c))) (c : Dev nD) : BodyObligation (dats (F := F) b m ρ 0 c) (defs₀ (F := F)) 𝒱₀ () Set.univ := fun t => by
  rw [fin_N0 t]
  rw [bigSep_W0, bigSep_W0]
  have h := body_run b m ρ c (hp c)
  simp only [staged, ← owns_stage] at h
  exact h

/-! ## What the launch deals -/

/-- The exchange's semaphores that the kernel allocates. -/
abbrev osem : Fin 56 → SemLoc sig := fun k => .dma (k.succ : Fin 57)
theorem ownSemFacts : Pipeline.OwnSemFacts cfg0.spec osem := by decide +kernel
theorem share_eq (c : Dev nD) (w : Fin cfg0.W) : (dats b m ρ 0 c).share w = fullShare := by unfold Dat.share; split <;> rfl

abbrev Tok : Type := Fin 57 × ℕ × Peer

theorem kcell_inj : Function.Injective fun p : Dev nD × Fin 57 => kcell p.1 p.2 := by
  rintro ⟨c, q⟩ ⟨c', q'⟩ h
  have h1 : c = c' := congrArg (fun g : GSem nD τ sig => g.1.1) h
  have h2 : q = q' := csem_inj (congrArg Prod.snd h)
  rw [h1, h2]
def allCells : Finset (GSem nD τ sig) := Finset.univ.map ⟨_, kcell_inj⟩

abbrev tokOf (x : Dev nD × Tok) : GSem nD τ sig × ℕ × Peer := (kcell x.1 x.2.1, x.2.2)
theorem tokOf_inj : Function.Injective tokOf := by
  rintro ⟨c, q, t⟩ ⟨c', q', t'⟩ h
  have h1 := kcell_inj (a₁ := (c, q)) (a₂ := (c', q')) (congrArg Prod.fst h)
  have h2 : t = t' := congrArg Prod.snd h
  rw [(Prod.mk.inj h1).1, (Prod.mk.inj h1).2, h2]
theorem toks_nodup : ∀ b, (toks b).Nodup := by decide +kernel

def allToks : Finset (GSem nD τ sig × ℕ × Peer) :=
  Finset.univ.map ⟨fun p : Dev nD × Fin (toks b).length => tokOf (p.1, (toks b).get p.2), fun p p' h => by
    have h := tokOf_inj h
    exact Prod.ext (Prod.mk.inj h).1 (List.nodup_iff_injective_get.mp (toks_nodup b) (Prod.mk.inj h).2)⟩

def u₀ : UU := (initOf (Pipeline.cells cfgs cellOf_inj) (Pipeline.launchToks cfgs cellOf_inj), initOf allCells (allToks b))

/-- The rights to the payments of a device's own semaphores. -/
def ownToks (c : Dev nD) : List Tok → sProp 𝕄
  | [] => iprop(emp)
  | t :: l => iprop(dutyTok ER (kcell c t.1) t.2.1 t.2.2 ∗ ownToks c l)

theorem ownToks_eq (c : Dev nD) : ∀ l : List Tok, l.Nodup → (bigSep l.toFinset fun t => (dutyTok ER (kcell c t.1) t.2.1 t.2.2 : sProp 𝕄)) = ownToks c l
  | [], _ => rfl
  | t :: l, h => by
    obtain ⟨ht, hl⟩ := List.nodup_cons.mp h
    rw [List.toFinset_cons, bigSep_insert (by rwa [List.mem_toFinset]), ownToks_eq c l hl]; rfl

/-- What the launch deals each device. -/
def G (c : Dev nD) : sProp 𝕄 :=
  iprop((bigSep Finset.univ fun q : Fin 57 => roundState ER (Rd b m) (kcell c q) 0)
    ∗ (bigSep Finset.univ fun q : Fin 57 => iprop(atPos ER (kcell c q) 0 ∅ 0 ∗ reached ER (kcell c q) 0)) ∗ ownToks c (toks b))

theorem fund_all : BI.own (ER (initOf allCells (allToks b))) ⊢ (|==> bigSep Finset.univ (G b m) : sProp 𝕄) := by
  have hX (Φ : GSem nD τ sig → sProp 𝕄) : bigSep allCells Φ = bigSep Finset.univ fun c : Dev nD => bigSep Finset.univ fun q : Fin 57 => Φ (kcell c q) := by
    unfold allCells; rw [bigSep_map, bigSep_univ_prod]; rfl
  have hT : bigSep (allToks b) (fun x => (dutyTok ER x.1 x.2.1 x.2.2 : sProp 𝕄)) = bigSep Finset.univ fun c : Dev nD => ownToks c (toks b) := by
    unfold allToks
    rw [bigSep_map, bigSep_univ_prod]
    refine bigSep_congr fun c _ => ?_
    rw [← ownToks_eq c _ (toks_nodup b),
      show (toks b).toFinset = Finset.univ.map ⟨(toks b).get, List.nodup_iff_injective_get.mp (toks_nodup b)⟩ from by
        ext t; simp [List.mem_iff_get], bigSep_map]
    rfl
  iintro HX
  imod (Rounds.fund ER (Rd b m) allCells (allToks b)) $$ HX with ⟨Hst, Hr, Hat, Htok⟩
  imodintro
  ihave Hst' := (Entails.of_eq (hX fun g => roundState ER (Rd b m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores' invariants -/

theorem fin57 (Φ : Fin 57 → sProp 𝕄) : bigSep Finset.univ Φ = iprop(Φ 0 ∗ bigSep Finset.univ fun k : Fin 56 => Φ k.succ) := by
  rw [Fin.univ_succ, Finset.cons_eq_insert, bigSep_insert (by simp), bigSep_map]; rfl

abbrev ownS (c : Dev nD) : sProp 𝕄 := Pipeline.ownSems0 (Ix := Unit) (Name := ℕ) (U := UU) (Lvl := ℕ) (Val := Elt F) (τ := τ) osem c

theorem unscoped_eq (c : Dev nD) : (unscopedSems0 c : sProp 𝕄) = semVal (kcell c 0) 0 := by
  unfold unscopedSems0; rw [bigSep_eq_bigSepL_of_eq [SemLoc.reg barS] (by decide +kernel) (by decide)]; rfl
theorem sems_eq (c : Dev nD) : (bigSep Finset.univ fun q : Fin 57 => (semVal (kcell c q) 0 : sProp 𝕄)) = iprop(unscopedSems0 c ∗ ownS c) := by
  rw [fin57, unscoped_eq]
  refine congrArg _ (bigSep_congr fun k _ => ?_)
  rw [show kcell c k.succ = ((c : Thread nD τ), osem k) from congrArg _ (csem_dma (by simp))]

theorem core_alloc (c : Dev nD) :
    iprop(ownS c ∗ unscopedSems0 c ∗ G b m c)
      ⊢ |={Set.univ}=> iprop((bigSep Finset.univ fun q => iprop(∃ κ : ℕ, cellInv ER (Rd b m) κ (kcell c q)))
          ∗ (bigSep Finset.univ fun q : Fin 57 => iprop(atPos ER (kcell c q) 0 ∅ 0 ∗ reached ER (kcell c q) 0)) ∗ ownToks c (toks b)) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun q : Fin 57 => semVal (kcell c q) 0) ∗ bigSep Finset.univ fun q : Fin 57 => roundState ER (Rd b m) (kcell c q) 0)
      ⊢ (|={Set.univ}=> bigSep Finset.univ fun q => iprop(∃ κ : ℕ, cellInv ER (Rd b m) κ (kcell c q)) : sProp 𝕄) from by
        rw [← bigSep_sep']
        exact (bigSep_mono fun q _ => (Rounds.body_intro ER (Rd b m) (kcell c q)).trans inv_alloc).trans (bigSep_fupd _ _)) $$ [Hv Hst] with Hinv
  · isplitl [Hv] <;> iassumption
  imodintro
  isplitl [Hinv]; · iexact Hinv
  isplitl [Hat]; · iexact Hat
  iexact Htok

/-- The standings and the rights to pay, as a device has them when the body starts. -/
abbrev stands : List Res := cells.map (.pos · 0)
abbrev pays : List Res := (toks b).map fun t => .tok (payer t.1 t.2.2) t.1 t.2.1 t.2.2

def G' (c : Dev nD) : sProp 𝕄 := iprop(∃ K, bigSep Finset.univ (known b m K) ∗ semL b m c stands ∗ semL b m c (pays b))

def farE (μ : Fin 16) : Dev nD ≃ Dev nD := ⟨far μ, far μ, far_far μ, far_far μ⟩

/-- The rights go from the device whose semaphore is paid to the one who pays it. -/
theorem toks_around : ∀ l : List Tok,
    (bigSep Finset.univ fun c : Dev nD => (ownToks c l : sProp 𝕄))
      = bigSep Finset.univ fun c : Dev nD => semL b m c (l.map fun t => .tok (payer t.1 t.2.2) t.1 t.2.1 t.2.2)
  | [] => rfl
  | t :: l => by
    show (bigSep Finset.univ fun c : Dev nD => iprop(dutyTok ER (kcell c t.1) t.2.1 t.2.2 ∗ ownToks c l))
      = bigSep Finset.univ fun c : Dev nD => iprop(dutyTok ER (kcell (far (payer t.1 t.2.2) c) t.1) t.2.1 t.2.2 ∗ semL b m c (l.map fun t => .tok (payer t.1 t.2.2) t.1 t.2.1 t.2.2))
    rw [bigSep_sep', bigSep_sep', toks_around l, bigSep_univ_equiv (farE (payer t.1 t.2.2)) fun c : Dev nD => (dutyTok ER (kcell c t.1) t.2.1 t.2.2 : sProp 𝕄)]
    rfl

theorem stands_eq (c : Dev nD) :
    (bigSep Finset.univ fun q : Fin 57 => (iprop(atPos ER (kcell c q) 0 ∅ 0 ∗ reached ER (kcell c q) 0) : sProp 𝕄)) = semL b m c stands := by
  unfold stands cells
  rw [semL_fin]; rfl

theorem regroup :
    (bigSep Finset.univ fun c : Dev nD => iprop((bigSep Finset.univ fun q => iprop(∃ κ : ℕ, cellInv ER (Rd b m) κ (kcell c q)))
          ∗ (bigSep Finset.univ fun q : Fin 57 => iprop(atPos ER (kcell c q) 0 ∅ 0 ∗ reached ER (kcell c q) 0)) ∗ ownToks c (toks b)) : sProp 𝕄)
      ⊢ bigSep Finset.univ (G' b m) := by
  rw [bigSep_sep', bigSep_sep', ← bigSep_univ_prod (fun p : Dev nD × Fin 57 => iprop(∃ κ : ℕ, cellInv ER (Rd b m) κ (kcell p.1 p.2))), toks_around b m (toks b)]
  iintro ⟨HI, Hat, Htok⟩
  ihave HK := (BI.bigSep_exists_pi Finset.univ (fun (p : Dev nD × Fin 57) (κ : ℕ) => (cellInv ER (Rd b m) κ (kcell p.1 p.2) : sProp 𝕄))) $$ HI
  icases HK with ⟨%K, #HI⟩
  ihave #HR := (show (bigSep Finset.univ fun c : Dev nD => bigSep Finset.univ fun q : Fin 57 => (iprop(atPos ER (kcell c q) 0 ∅ 0 ∗ reached ER (kcell c q) 0) : sProp 𝕄))
      ⊢ bigSep Finset.univ fun p : Dev nD × Fin 57 => reached ER (kcell p.1 p.2) 0 from by
    rw [bigSep_univ_prod (fun p : Dev nD × Fin 57 => (reached ER (kcell p.1 p.2) 0 : sProp 𝕄))]
    exact bigSep_mono fun c _ => bigSep_mono fun q _ => show (iprop(atPos ER (kcell c q) 0 ∅ 0 ∗ reached ER (kcell c q) 0) : sProp 𝕄) ⊢ reached ER (kcell c q) 0 from by iintro ⟨-, H⟩; iexact H) $$ Hat
  iapply (bigSep_using (R := bigSep Finset.univ (known b m K)) (Φ := fun c => iprop(semL b m c stands ∗ semL b m c (pays b)))
    fun c => (exists_intro (Φ := fun K => iprop(bigSep Finset.univ (known b m K) ∗ semL b m c stands ∗ semL b m c (pays b))) K))
  isplitr
  · unfold known
    rw [bigSep_sep']
    isplitr; · iexact HI
    iexact HR
  · rw [bigSep_sep', ← bigSep_congr (s := Finset.univ) fun (c : Dev nD) _ => stands_eq b m c]
    isplitl [Hat]; · iexact Hat
    iexact Htok

/-- The invariants of all the devices' semaphores set up at once. -/
theorem glob : (bigSep Finset.univ fun c => iprop(ownS c ∗ unscopedSems0 c ∗ G b m c) : sProp 𝕄) ⊢ |={Set.univ}=> bigSep Finset.univ (G' b m) :=
  ((bigSep_mono fun c _ => core_alloc b m c).trans (bigSep_fupd _ _)).trans (BI.fupd_mono (regroup b m))

/-! ## The credits -/

theorem creds (c : Dev nD) : ∀ ds : List Debt, (Pipeline.launchCred (fun d => tally d ds) c : sProp 𝕄) ⊢ semL b m c (ds.map fun d => .cred d.2)
  | [] => Entails.of_eq (Pipeline.launchCred_zero c)
  | d :: ds => by
    have h := Pipeline.launchCred_tallyAt (τ := τ) (Val := Elt F) (Name := ℕ) (U := UU) (Lvl := ℕ) (csem d.2) (far d.1.mask) (far d.1.mask) (far_far _) (far_far _) () (amt d.2) c
    refine (Entails.of_eq (Pipeline.launchCred_add (fun e => tally e ds) (fun e => tallyAt (kcell (far d.1.mask e) d.2) () (amt d.2)) c)).trans ?_
    show _ ⊢ iprop(cred (tallyAt (kcell c d.2) () (amt d.2)) ∗ semL b m c (ds.map fun d => .cred d.2))
    iintro ⟨H1, H2⟩
    isplitl [H2]; · iapply h; iexact H2
    iapply (creds c ds); iexact H1

/-! ## Start and exit -/

/-- What a device holds at the start but for its staging buffers. -/
def start (c : Dev nD) : sProp 𝕄 :=
  iprop(∃ K, ctx b m K ∗ semL b m c stands ∗ semL b m c (pays b) ∗ semL b m c ((debts (allActs b)).map fun d => .cred d.2)
    ∗ semL b m c (chunks.map .mine) ∗ semL b m c (chunks.map .x))

theorem start_intro (c : Dev nD) :
    iprop(Pipeline.unscopedRestP Pipeline.Prefetch.none cfg0.spec c (fun r => m ((c : Thread nD τ).loc r)) ∗ levAts L lv
        ∗ Pipeline.launchCred (O₀ b) c ∗ prngReg c (ρ c) ∗ G' b m c)
      ⊢ |={Set.univ}=> iprop(start b m c ∗ emp) := by
  rw [show (Pipeline.unscopedRestP Pipeline.Prefetch.none cfg0.spec c (fun r => m ((c : Thread nD τ).loc r)) : sProp 𝕄)
      = iprop(((xLoc c) ↦{fullShare} m (xLoc c)) ∗ ((oLoc c) ↦{fullShare} m (oLoc c))) from unscopedRest0_eq c fun r => m ((c : Thread nD τ).loc r)]
  iintro ⟨⟨Hx, Ho⟩, Hlev, Hcr, -, HG⟩
  ihave Hcr := (creds b m c (debts (allActs b))) $$ Hcr
  ihave Hx := (Entails.of_eq (x_eq b m c)) $$ Hx
  ihave Ho := (mine_intro b m c (m (oLoc c))) $$ Ho
  unfold start G' ctx
  icases HG with ⟨%K, HK, Hs, Hp⟩
  imodintro
  isplitl
  · iexists K
    isplitl [HK Hlev]
    · isplitl [HK]; · iexact HK
      iexact Hlev
    isplitl [Hs]; · iexact Hs
    isplitl [Hp]; · iexact Hp
    isplitl [Hcr]; · iexact Hcr
    isplitl [Ho]; · iexact Ho
    iexact Hx
  · iempintro

theorem phi0_intro (c : Dev nD) :
    iprop(start b m c ∗ Pipeline.prefHeld Pipeline.Prefetch.none c (fun _ => fullShare.right) (fun k => k.elim0) ∗ Pipeline.scopedRest cfg0.spec c)
      ⊢ (dats b m ρ 0 c).Φ 0 := by
  rw [show (dats b m ρ 0 c).Φ 0 = Φ₀ b m c from rfl, scopedRest0_eq]
  unfold Φ₀ start
  iintro ⟨⟨%K, Hc, Hs, Hp, Hcr, Ho, Hx⟩, -, ⟨%g, Hi⟩, ⟨%g', Hb⟩⟩
  iexists K
  isplitl [Hc]; · iexact Hc
  unfold init
  iapply (semL_append b m c _ _).2
  isplitl [Hs]; · iexact Hs
  iapply (semL_append b m c _ _).2
  isplitl [Hp]; · iexact Hp
  iapply (semL_append b m c _ _).2
  isplitl [Hcr]; · iexact Hcr
  iapply (semL_append b m c _ _).2
  isplitl [Ho]; · iexact Ho
  iapply (semL_append b m c _ _).2
  isplitl [Hx]; · iexact Hx
  iapply (slots_split b m c g g')
  isplitl [Hi]; · iexact Hi
  iexact Hb

/-- What is read off at the end. -/
def ends (c : Dev nD) : sProp 𝕄 := iprop(unscopedSems0 c ∗ ((xLoc c) ↦{fullShare} m (xLoc c)) ∗ ((oLoc c) ↦{fullShare} outv b m c))

theorem phi1_exit (c : Dev nD) :
    (dats b m ρ 0 c).Φ (Fin.last cfg0.N) ⊢ iprop(ends b m c ∗ ownS c ∗ Pipeline.scopedRest cfg0.spec c) := by
  rw [show (dats b m ρ 0 c).Φ (Fin.last cfg0.N) = after b m c from rfl, scopedRest0_eq]
  unfold after ends
  rw [sems_eq]
  iintro ⟨⟨Hu, Hs⟩, Hx, Ho, Hi, Hb⟩
  isplitl [Hu Hx Ho]
  · isplitl [Hu]; · iexact Hu
    isplitl [Hx]; · iexact Hx
    iexact Ho
  isplitl [Hs]; · iexact Hs
  isplitl [Hi]; · iexact Hi
  iexact Hb

theorem debts_above : ∀ b, (debts (allActs b)).all (fun d => Nat.blt 0 (level d.2)) = true := by decide +kernel

theorem waits (c : Dev nD) : (levAts L lv : sProp 𝕄) ⊢ Pipeline.cellsWaits cfgs (dats b m ρ) () 0 c :=
  Pipeline.cellsWaits_intro cfgs (dats b m ρ) () 0 c fun w s t => by
    fin_cases w; fin_cases s
    rcases t with ⟨_ | _, ht⟩
    · exact mayWait_fetch c _ (debts_above b)
    · exact mayWait_fetch c [] rfl

/-! ## The run -/

/-- What is read off a device's memory at the end. -/
def Reads (c : Dev nD) (s : MemSt nD τ sig (Elt F)) : Prop :=
  (∀ sm : SemLoc sig, sm.isScoped .tc = false → s.sem ((c.tc : Thread nD τ), sm) = 0) ∧ s.mem (xLoc c) = m (xLoc c) ∧ s.mem (oLoc c) = outv b m c

theorem ends_read (c : Dev nD) (s' : Phys nD τ sig (Elt F)) :
    iprop(ends b m c ∗ emp ∗ SI s') ⊢ |={Set.univ}=> iprop(⌜Reads b m c s'.mem⌝ ∗ SI s' : sProp 𝕄) := by
  unfold ends
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ hx, Buf.eq_of_forall_mem_univ ho⟩
  iexact HSI

/-- What a run leaves. -/
def Left (r : PUnit × MemSt nD τ sig (Elt F)) : Prop :=
  (∀ c : Dev nD, r.2.mem (xLoc c) = m (xLoc c) ∧ r.2.mem (piLoc c) = m (piLoc c) ∧ r.2.mem (oLoc c) = outv b m c) ∧ r.2.sem = fun _ => 0

theorem pi_final (c : Dev nD) : (dats b m ρ 0 c).arrAt (0 : Fin 1) cfg0.N = m (piLoc c) := (dats (F := F) b m ρ 0 c).arrAt_in (0 : Fin 1) rfl _

set_option maxRecDepth 8000 in
/-- Every execution of the kernel from memory in which `pi` is as branch `b` has it ends, and leaves `Left`. -/
theorem run_main (hp : ∀ c, Order b c (m (piLoc c))) : θ_run defs (onTc (τ := τ) (main (F := F))) (s₀ m ρ) (Left b m) :=
  Pipeline.θ_run_region_owing_glob_pf (fun p => (cfgs p).toPCfg) (fun p => (cfgs p).toPCfg_adm) (dats b m ρ) () cellOf_inj (0 : Fin 1)
    winFacts0.to₀ ownSemFacts (Pipeline.PreFacts.none _) EP defs₀ 𝒱₀ m ρ main
    (hmain := fun _ => rfl)
    (hbody := body_obligation b m ρ hp) (hne := fun w => by fin_cases w; exact Nat.succ_pos _) (harr := arr_whole0) (hstage := stage_whole0) (hshare := share_eq b m ρ)
    (hdistinct := winFacts0.arr_inj)
    (O₀ := O₀ b) (howed₀ := fun _ => rfl) (howedN := fun _ => rfl)
    (L := L) (lv := lv) (hL := L_of_ne) (hwaits := waits b m ρ)
    (G := G b m) (G' := G' b m) (u₀ := u₀ b)
    (hu₀ := by
      unfold u₀
      iintro Hu
      ihave H := (ownU_pair _ _) $$ Hu
      icases H with ⟨HP, HX⟩
      imod (fund_all b m) $$ HX with HG
      imodintro
      isplitl [HP] <;> iassumption)
    (hglob := glob b m)
    (hA := fun _ _ => rfl) (hpf := fun _ k => k.elim0)
    (X := start b m) (Y := ends b m) (Z := fun _ => iprop(emp))
    (hX := start_intro b m ρ) (hin := phi0_intro b m ρ) (hout := phi1_exit b m ρ)
    (QY := Reads b m)
    (hY := ends_read b m)
    (hQ := fun _ h hs => ⟨fun c => ⟨(h c).2.2.2.1, ((h c).1 (0 : Fin 1)).trans (pi_final b m ρ c), (h c).2.2.2.2⟩, sem_eq_zero hs fun c => (h c).2.2.1⟩)

end Cert.Exchange
end
-- ==== Proof.Value.lean ====
/-
# `Value`: what the reference computes, and that the kernel computes it

The reference takes the rows of `x` in the order that sorts `pi`. At either of the two permutations of 0 and 1 that is
the permutation itself, so the reference's result is `x` with its first axis turned or as it was, each element cast. A
device's result holds the `x` of a device at the other place of `y`, or at its own, each element cast: its block.
-/
module

public import proofs.«01_k».proof.Proof.Launch
public import proofs.«01_k».proof.Proof.Gen.ReferenceIdeal.Run
public import proofs.«01_k».proof.Proof.Gen.Pre_swaps_Kernel
public import proofs.«01_k».proof.Proof.Gen.Pre_keeps_Kernel
public import Idealize.ShloMosaic.Lib.Layout
public import Idealize.ShloMosaic.Lib.ValueIdxCore

@[expose] public section

noncomputable section

namespace Cert.Exchange

open Idealize.ShloMosaic
open Idealize.ShloMosaic.TcCoe

variable {F : FTy → Type} [FloatOps F]

/-! ## The order of the rows -/

/-- The permutation of branch `b`, as the words of `pi`. -/
def order (b : Bool) : IVec Cert.ReferenceIdeal.S2 32 := fun e => piWord b (e 0).val

/-- The place `k` of the permutation. -/
def place (b : Bool) (k : Fin 2) : Fin 2 := if b then 1 - k else k

open Cert.ReferenceIdeal Cert.ReferenceIdeal.Gen in
/-- The rows the reference takes, from the words of `pi`: a negative one would count from the end. -/
def rows (p : IVec S2 32) : IVec S2x1 32 :=
  broadcastInDim S2x1 ![0] bcast_S2_S2x1_0 (select (cmpi .slt ((Host.sort2 S2 0 comparator_i32_i32_d0 p (iotaInDim S2 32 0)).2) (broadcastInDim S2 ![] bcast_S_S2 (constantI S_ 32 0#32))) (addi ((Host.sort2 S2 0 comparator_i32_i32_d0 p (iotaInDim S2 32 0)).2) (broadcastInDim S2 ![] bcast_S_S2 (constantI S_ 32 2#32))) ((Host.sort2 S2 0 comparator_i32_i32_d0 p (iotaInDim S2 32 0)).2))

/-- The index of row `k`'s word. -/
def rowIdx (k : Fin 2) : Cert.ReferenceIdeal.S2x1.Idx := fun a => match a with | ⟨0, _⟩ => k | ⟨1, _⟩ => (0 : Fin 1)

/-- The sort of either permutation gives the permutation. -/
theorem rows_order : ∀ (b : Bool) (k : Fin 2), rows (order b) (rowIdx k) = BitVec.ofNat 32 (place b k).val := by decide +kernel

/-- An element of the whole array, its first coordinate turned. -/
def turned (b : Bool) (y : Cert.ReferenceIdeal.S2x4096x2048.Idx) : Cert.ReferenceIdeal.S2x4096x2048.Idx :=
  fun a => match a with | ⟨0, _⟩ => place b (y 0) | ⟨1, _⟩ => y 1 | ⟨2, _⟩ => y 2

/-- Whole rows, one for each word. -/
abbrev taking := Cert.ReferenceIdeal.gather_S2x4096x2048_S2x1_S2x4096x2048_12_0_n_n_0_1_140962048

open Cert.ReferenceIdeal in
/-- The reference takes row `k` of its result from the row that word `k` names. -/
theorem gather_rows {α : Type} (b : Bool) (x : S2x4096x2048.Idx → α) (i : IVec S2x1 32) (y : S2x4096x2048.Idx)
    (hk : i (rowIdx (y 0)) = BitVec.ofNat 32 (place b (y 0)).val) :
    Host.gather taking x i y = x (turned b y) := by
  have h0 (a) : GatherDims.batchCoord taking y a = 0 :=
    GatherDims.batchCoord_eq_zero _ _ _ List.not_mem_nil
  have h1 : GatherDims.offCoord taking y (0 : Fin 3) = 0 :=
    GatherDims.offCoord_eq_zero _ _ _ fun h => ((GatherDims.mem_sKept _ _).mp h).1 (List.mem_singleton.mpr rfl)
  have h2 : GatherDims.start taking y i (0 : Fin 3) = (place b (y 0)).val := by
    have h : i (GatherDims.siIdx taking y ⟨0, Nat.one_pos⟩) = BitVec.ofNat 32 (place b (y 0)).val := by
      rw [← hk]
      congr 1
      funext a
      match a with
      | ⟨0, _⟩ => rfl
      | ⟨1, _⟩ => rfl
    refine (dif_pos (List.mem_singleton.mpr rfl)).trans ((congrArg (fun w : BitVec 32 => min w.toInt.toNat 1) h).trans ?_)
    generalize place b (y 0) = k
    revert k; decide
  unfold Host.gather
  congr 1
  funext a
  refine Fin.ext ?_
  match a with
  | ⟨0, _⟩ =>
    show GatherDims.start taking y i (0 : Fin 3) + GatherDims.batchCoord taking y (0 : Fin 3) + GatherDims.offCoord taking y (0 : Fin 3) = (place b (y 0)).val
    rw [h0, h1, h2]
    rfl
  | ⟨1, _⟩ =>
    show GatherDims.start taking y i (1 : Fin 3) + GatherDims.batchCoord taking y (1 : Fin 3) + GatherDims.offCoord taking y (1 : Fin 3) = (y 1).val
    rw [h0, show GatherDims.start taking y i (1 : Fin 3) = 0 from dif_neg (by decide), Nat.zero_add]
    rfl
  | ⟨2, _⟩ =>
    show GatherDims.start taking y i (2 : Fin 3) + GatherDims.batchCoord taking y (2 : Fin 3) + GatherDims.offCoord taking y (2 : Fin 3) = (y 2).val
    rw [h0, show GatherDims.start taking y i (2 : Fin 3) = 0 from dif_neg (by decide), Nat.zero_add]
    rfl

/-! ## A device's block -/

/-- The block of a device at the place `y`, when the arrays are cut by `y`. -/
abbrev part {α : Type} (c : Fin 16) (v : Cert.ReferenceIdeal.S2x4096x2048.Idx → α) : Cert.KernelIdeal.S1x4096x2048.Idx → α :=
  Layout.blockN ⟨3, ![1, 4096, 2048]⟩ ⟨3, ![2, 4096, 2048]⟩ (Layout.meshBlock [2, 2, 4] ![[1], [], []] c) v

/-- The device whose `x` a chunk holds is at the place of `y` that the permutation says. -/
theorem part_far : ∀ (b : Bool) (i : Fin 32) (c : Fin 16),
    Layout.meshLin [2, 2, 4] (far (org b i) c).val [1] = (place b ⟨Layout.meshLin [2, 2, 4] c.val [1], Layout.meshLin_lt _ _ _ (by decide)⟩).val := by
  decide +kernel

/-- What a device's result holds is its block of `x`, turned and cast. -/
theorem outv_part (b : Bool) (m : (ℓ : Loc Cert.KernelIdeal.nD Cert.KernelIdeal.τ Cert.KernelIdeal.sig) → Buf (Elt F) ℓ) (X : FVec F Cert.ReferenceIdeal.S2x4096x2048 .f32)
    (hX : ∀ c, m (xLoc c) = part c X) (c : Fin 16) :
    outv b m c = part c (truncf .bf16 (fun y => X (turned b y)) Cert.ReferenceIdeal.Gen.bitsLt_bf16_f32) := by
  funext e
  refine congrArg (fun v : F .f32 => FloatOps.truncf .bf16 Cert.ReferenceIdeal.Gen.bitsLt_bf16_f32 v) ((congrFun (hX _) e).trans (congrArg X (funext fun a => Fin.ext ?_)))
  match a with
  | ⟨0, _⟩ =>
    have he : (e 0).val = 0 := Nat.lt_one_iff.mp (e 0).isLt
    have hc : Layout.meshLin [2, 2, 4] c.val [1] < 2 := Layout.meshLin_lt _ _ _ (by decide)
    show Layout.meshLin [2, 2, 4] (far (org b (blk b c (rowBlk e))) c).val [1] * 1 + (e 0).val
      = (place b ⟨Layout.meshLin [2, 2, 4] c.val [1] * 1 + (e 0).val, by rw [he]; omega⟩).val
    have hi : (⟨Layout.meshLin [2, 2, 4] c.val [1] * 1 + (e 0).val, by rw [he]; omega⟩ : Fin 2) = ⟨Layout.meshLin [2, 2, 4] c.val [1], hc⟩ := by
      refine Fin.ext ?_; show _ * 1 + _ = Layout.meshLin [2, 2, 4] c.val [1]; rw [he]; omega
    rw [hi, he, part_far b _ c, Nat.mul_one, Nat.add_zero]
  | ⟨1, _⟩ => rfl
  | ⟨2, _⟩ => rfl

/-- The reference's result at the permutation of branch `b`. -/
abbrev refv (b : Bool) (X : FVec F Cert.ReferenceIdeal.S2x4096x2048 .f32) : FVec F Cert.ReferenceIdeal.S2x4096x2048 .bf16 :=
  truncf .bf16 (fun y => X (turned b y)) Cert.ReferenceIdeal.Gen.bitsLt_bf16_f32

/-! ## The two permutations -/

theorem both_one {u v w z : BitVec 32} (h : IntOp.andi (IntOp.cmpi .eq u w) (IntOp.cmpi .eq v z) = 1#1) : u = w ∧ v = z := by
  have h : BitVec.ofBool (u == w) &&& BitVec.ofBool (v == z) = 1#1 := h
  have h' : (u == w) = true ∧ (v == z) = true := by
    revert h; generalize (u == w) = x; generalize (v == z) = y; revert x y; decide
  exact ⟨eq_of_beq h'.1, eq_of_beq h'.2⟩

/-- The index of word `k`. -/
def wordIdx (k : Fin 2) : Cert.ReferenceIdeal.S2.Idx := fun a => match a with | ⟨0, _⟩ => k

theorem order_of_words {p : IVec Cert.ReferenceIdeal.S2 32} (b : Bool) (h0 : p (wordIdx 0) = piWord b 0) (h1 : p (wordIdx 1) = piWord b 1) :
    p = order b := by
  have hk : ∀ k : Fin 2, p (wordIdx k) = piWord b k.val := fun k => match k with | ⟨0, _⟩ => h0 | ⟨1, _⟩ => h1
  funext e
  have he : e = wordIdx (e 0) := funext fun a => match a with | ⟨0, _⟩ => rfl
  rw [he]
  exact hk _

/-- Cutting the one word at `k` out of two words and reading it is reading word `k`. -/
theorem word_read (p : IVec Cert.ReferenceIdeal.S2 32) (k : Fin 2) {s t : Shape} (hs : s = ⟨1, ![1]⟩)
    (off : Fin 1 → Nat) (ho : off 0 = k.val) (h : Cert.ReferenceIdeal.S2.Slices off s) (hc : s.ShapeCasts t) (i : t.Idx) :
    shapeCast t (extractStridedSlice s off p h) hc i = p (wordIdx k) := by
  subst hs
  refine congrArg p (funext fun a => match a with | ⟨0, _⟩ => Fin.ext ?_)
  have hj : ((Shape.reshapeEquiv hc i) 0).val < 1 := ((Shape.reshapeEquiv hc i) 0).isLt
  show off 0 + ((Shape.reshapeEquiv hc i) 0).val = k.val
  omega

theorem order_swaps (x : FVec F Cert.Pre_swaps_Kernel.S1x4096x2048 .f32) (p : IVec Cert.Pre_swaps_Kernel.S2 32)
    (h : Cert.Pre_swaps_Kernel.fn x p = fun _ => 1#1) : p = order true := by
  have h := both_one (congrFun h (fun a => a.elim0))
  exact order_of_words true ((word_read p 0 rfl _ rfl Cert.Pre_swaps_Kernel.Gen.slices_S2_S1_0 Cert.Pre_swaps_Kernel.Gen.shapeCasts_S1_S_ _).symm.trans h.1)
    ((word_read p 1 rfl _ rfl Cert.Pre_swaps_Kernel.Gen.slices_S2_S1_1 Cert.Pre_swaps_Kernel.Gen.shapeCasts_S1_S_ _).symm.trans h.2)

theorem order_keeps (x : FVec F Cert.Pre_keeps_Kernel.S1x4096x2048 .f32) (p : IVec Cert.Pre_keeps_Kernel.S2 32)
    (h : Cert.Pre_keeps_Kernel.fn x p = fun _ => 1#1) : p = order false := by
  have h := both_one (congrFun h (fun a => a.elim0))
  exact order_of_words false ((word_read p 0 rfl _ rfl Cert.Pre_keeps_Kernel.Gen.slices_S2_S1_0 Cert.Pre_keeps_Kernel.Gen.shapeCasts_S1_S_ _).symm.trans h.1)
    ((word_read p 1 rfl _ rfl Cert.Pre_keeps_Kernel.Gen.slices_S2_S1_1 Cert.Pre_keeps_Kernel.Gen.shapeCasts_S1_S_ _).symm.trans h.2)

/-! ## The reference's run -/

theorem ref_run (m : (ℓ : Loc Cert.ReferenceIdeal.nD Cert.ReferenceIdeal.τ Cert.ReferenceIdeal.sig) → Buf (Elt F) ℓ) (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r =>
      (∀ c : Dev Cert.ReferenceIdeal.nD,
        (∀ b, m ((c.tc : Thread _ _).loc Cert.ReferenceIdeal.main_arg1) = order b →
          r.2.mem ((c.tc : Thread _ _).loc Cert.ReferenceIdeal.main_v8) = refv b (m ((c.tc : Thread _ _).loc Cert.ReferenceIdeal.main_arg0)))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1))
      ∧ r.2.sem = fun _ => 0 :=
  (θ_run _ _ _).mono (fun r h => ⟨fun c => ⟨fun b hb => (h c).1.trans (by
      rw [hb]
      refine congrArg (fun v => truncf .bf16 v Cert.ReferenceIdeal.Gen.bitsLt_bf16_f32) (funext fun y => ?_)
      exact gather_rows b _ (rows (order b)) y (rows_order b _)), (h c).2⟩, sem_eq_zero_of_no_sems rfl _⟩) (Cert.ReferenceIdeal.Value.run m ρ)

end Cert.Exchange
end
-- ==== Proof.Pair.lean ====
/-
# `Pair`: the kernel's runs and the reference's, at any float values

What the claims ask of a run from a memory whose order of shards is one of the two, stated once for both orders and for
any float values.
-/
module

public import proofs.«01_k».proof.Proof.Value

@[expose] public section

noncomputable section

namespace Cert.Exchange

open Idealize.ShloMosaic
open Idealize.ShloMosaic.TcCoe

variable {F : FTy → Type} [FloatOps F]

/-- The run where the memory's order is `order b` on every device. -/
theorem kernel_run (b : Bool) (m : (ℓ : Loc Cert.KernelIdeal.nD Cert.KernelIdeal.τ Cert.KernelIdeal.sig) → Buf (Elt F) ℓ)
    (ρ : Dev Cert.KernelIdeal.nD → PrngReg) (hp : ∀ c, m (piLoc c) = order b) :
    θ_run Cert.KernelIdeal.defs (onTc (τ := Cert.KernelIdeal.τ) (Cert.KernelIdeal.main (F := F))) ⟨m, fun _ => 0, ρ⟩ (Left b m) :=
  run_main b m ρ fun c e => congrFun (hp c) e

/-- The kernel's arguments unchanged and its semaphores at rest. -/
theorem kernel_frame (b : Bool) (m : (ℓ : Loc Cert.KernelIdeal.nD Cert.KernelIdeal.τ Cert.KernelIdeal.sig) → Buf (Elt F) ℓ)
    (ρ : Dev Cert.KernelIdeal.nD → PrngReg) (hp : ∀ c, m (piLoc c) = order b) :
    θ_run Cert.KernelIdeal.defs (onTc (τ := Cert.KernelIdeal.τ) (Cert.KernelIdeal.main (F := F))) ⟨m, fun _ => 0, ρ⟩ fun r =>
      (∀ c, r.2.mem (xLoc c) = m (xLoc c) ∧ r.2.mem (piLoc c) = m (piLoc c)) ∧ r.2.sem = fun _ => 0 :=
  (θ_run _ _ _).mono (fun _ h => ⟨fun c => ⟨(h.1 c).1, (h.1 c).2.1⟩, h.2⟩) (kernel_run b m ρ hp)

/-- The whole arrays the reference is given, and its result. -/
abbrev refX : Loc Cert.ReferenceIdeal.nD Cert.ReferenceIdeal.τ Cert.ReferenceIdeal.sig :=
  ((0 : Dev Cert.ReferenceIdeal.nD).tc : Thread Cert.ReferenceIdeal.nD Cert.ReferenceIdeal.τ).loc Cert.ReferenceIdeal.main_arg0
abbrev refPi : Loc Cert.ReferenceIdeal.nD Cert.ReferenceIdeal.τ Cert.ReferenceIdeal.sig :=
  ((0 : Dev Cert.ReferenceIdeal.nD).tc : Thread Cert.ReferenceIdeal.nD Cert.ReferenceIdeal.τ).loc Cert.ReferenceIdeal.main_arg1
abbrev refOut : Loc Cert.ReferenceIdeal.nD Cert.ReferenceIdeal.τ Cert.ReferenceIdeal.sig :=
  ((0 : Dev Cert.ReferenceIdeal.nD).tc : Thread Cert.ReferenceIdeal.nD Cert.ReferenceIdeal.τ).loc Cert.ReferenceIdeal.main_v8

/-- Both run, and each device's result is its block of the reference's. -/
theorem both_run (b : Bool) (m : (ℓ : Loc Cert.KernelIdeal.nD Cert.KernelIdeal.τ Cert.KernelIdeal.sig) → Buf (Elt F) ℓ)
    (ρ : Dev Cert.KernelIdeal.nD → PrngReg)
    (m' : (ℓ : Loc Cert.ReferenceIdeal.nD Cert.ReferenceIdeal.τ Cert.ReferenceIdeal.sig) → Buf (Elt F) ℓ)
    (ρ' : Dev Cert.ReferenceIdeal.nD → PrngReg) (hp : ∀ c, m (piLoc c) = order b)
    (hm : ∀ c, m (xLoc c) = part c (m' refX) ∧ m (piLoc c) = m' refPi) :
    ∃ v : Buf (Elt F) refOut,
      θ_run Cert.KernelIdeal.defs (onTc (τ := Cert.KernelIdeal.τ) (Cert.KernelIdeal.main (F := F))) ⟨m, fun _ => 0, ρ⟩ (fun r =>
        ∀ c, r.2.mem (oLoc c) = part c v ∧ r.2.mem (xLoc c) = m (xLoc c) ∧ r.2.mem (piLoc c) = m (piLoc c))
      ∧ θ_run Cert.ReferenceIdeal.defs (onTc (τ := Cert.ReferenceIdeal.τ) (Cert.ReferenceIdeal.main (F := F))) ⟨m', fun _ => 0, ρ'⟩ (fun r =>
        r.2.mem refOut = v ∧ r.2.mem refX = m' refX ∧ r.2.mem refPi = m' refPi) :=
  ⟨refv b (m' refX),
    (θ_run _ _ _).mono (fun _ h c => ⟨((h.1 c).2.2).trans (outv_part b m (m' refX) (fun c => (hm c).1) c), (h.1 c).1, (h.1 c).2.1⟩)
      (kernel_run b m ρ hp),
    (θ_run _ _ _).mono (fun _ h => ⟨(h.1 0).1 b ((hm 0).2.symm.trans (hp 0)), (h.1 0).2⟩) (ref_run m' ρ')⟩

end Cert.Exchange
end
-- ==== Proof.lean ====
module

public import proofs.«01_k».proof.Defs
public import proofs.«01_k».proof.Proof.Gen.Kernel
public import proofs.«01_k».proof.Proof.Gen.Reference
public import proofs.«01_k».proof.Proof.Gen.Pre_swaps_Kernel
public import proofs.«01_k».proof.Proof.Gen.Pre_keeps_Kernel
public import proofs.«01_k».proof.Proof.Gen.Pre_swaps_ReferenceIdeal
public import proofs.«01_k».proof.Proof.Gen.Pre_keeps_ReferenceIdeal
public import proofs.«01_k».proof.Proof.Gen.ReferenceIdeal.Run
public import proofs.«01_k».proof.Proof.Pair
public import Idealize.ShloMosaic.Adequacy
public import Idealize.ShloMosaic.Init

@[expose] public section

namespace Cert.Proof

open Idealize.ShloMosaic Cert.Exchange

/-! ## The kernel's frames

The kernel's text is its idealization's, so a run of one over the bits is a run of the other. -/

set_option smartUnfolding false in
theorem frame_kernel_swaps : Cert.quiescent_Kernel := fun m ρ hp =>
  (θ_run Cert.KernelIdeal.defs _ _).mono (fun _ h => h) (kernel_frame (F := Bits) true m ρ fun c => order_swaps _ _ (hp c))

set_option smartUnfolding false in
theorem frame_kernel_keeps : Cert.quiescent_Kernel_pre_keeps_Kernel := fun m ρ hp =>
  (θ_run Cert.KernelIdeal.defs _ _).mono (fun _ h => h) (kernel_frame (F := Bits) false m ρ fun c => order_keeps _ _ (hp c))

theorem frame_ideal_swaps : Cert.quiescent_KernelIdeal := fun m ρ hp =>
  kernel_frame (F := Ideal) true m ρ fun c => order_swaps _ _ (hp c)

theorem frame_ideal_keeps : Cert.quiescent_KernelIdeal_pre_keeps_Kernel := fun m ρ hp =>
  kernel_frame (F := Ideal) false m ρ fun c => order_keeps _ _ (hp c)

/-! ## The reference's frames -/

theorem frame_reference_ideal : Cert.quiescent_ReferenceIdeal := fun m ρ _ =>
  (θ_run Cert.ReferenceIdeal.defs _ _).mono (fun _ h => ⟨fun c => (h.1 c).2, h.2⟩) (ref_run (F := Ideal) m ρ)

theorem frame_reference_ideal_swaps : Cert.quiescent_ReferenceIdeal_pre_swaps_ReferenceIdeal := fun m ρ _ =>
  frame_reference_ideal m ρ trivial

theorem frame_reference_ideal_keeps : Cert.quiescent_ReferenceIdeal_pre_keeps_ReferenceIdeal := fun m ρ _ =>
  frame_reference_ideal m ρ trivial

theorem frame_reference_swaps : Cert.quiescent_Reference := fun m ρ _ =>
  (θ_run Cert.ReferenceIdeal.defs _ _).mono (fun _ h => ⟨fun c => (h.1 c).2, h.2⟩) (ref_run (F := Bits) m ρ)

theorem frame_reference_keeps : Cert.quiescent_Reference_pre_keeps_ReferenceIdeal := fun m ρ _ =>
  (θ_run Cert.ReferenceIdeal.defs _ _).mono (fun _ h => ⟨fun c => (h.1 c).2, h.2⟩) (ref_run (F := Bits) m ρ)

/-! ## The values -/

theorem ideal_swaps : Cert.algebraic_KernelIdeal_ReferenceIdeal := fun m ρ m' ρ' hp hm =>
  both_run (F := Ideal) true m ρ m' ρ' (fun c => order_swaps _ _ (hp c)) hm

theorem ideal_keeps : Cert.algebraic_KernelIdeal_ReferenceIdeal_pre_keeps_Kernel := fun m ρ m' ρ' hp hm =>
  both_run (F := Ideal) false m ρ m' ρ' (fun c => order_keeps _ _ (hp c)) hm

set_option smartUnfolding false in
theorem bits_swaps : Cert.bitexact_Kernel_Reference := fun m ρ m' ρ' hp hm =>
  both_run (F := Bits) true m ρ m' ρ' (fun c => order_swaps _ _ (hp c)) hm

set_option smartUnfolding false in
theorem bits_keeps : Cert.bitexact_Kernel_Reference_pre_keeps_Kernel := fun m ρ m' ρ' hp hm =>
  both_run (F := Bits) false m ρ m' ρ' (fun c => order_keeps _ _ (hp c)) hm

theorem claim : Cert.Claim :=
  ⟨Cert.Kernel.Gen.facts, Cert.KernelIdeal.Gen.facts, Cert.ReferenceIdeal.Gen.facts, Cert.Reference.Gen.facts,
    Cert.Pre_swaps_Kernel.Gen.facts, Cert.Pre_keeps_Kernel.Gen.facts, Cert.Pre_swaps_ReferenceIdeal.Gen.facts,
    Cert.Pre_keeps_ReferenceIdeal.Gen.facts,
    frame_kernel_swaps, frame_kernel_keeps, frame_ideal_swaps, frame_ideal_keeps,
    frame_reference_ideal, frame_reference_ideal_swaps, frame_reference_ideal_keeps, frame_reference_swaps, frame_reference_keeps,
    trivial, ideal_swaps, ideal_keeps, bits_swaps, bits_keeps⟩

end Cert.Proof

end
